-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m ((c.tc : Thread Cert.KernelIdeal.nD Cert.KernelIdeal.τ).loc Cert.KernelIdeal.main_arg0) = Layout.blockN ⟨2, ![32768, 1024]⟩ ⟨2, ![65536, 1024]⟩ (Layout.meshBlock [2, 2, 4] ![[1], []] c) (m' (((0 : Dev Cert.ReferenceIdeal.nD).tc : Thread Cert.ReferenceIdeal.nD Cert.ReferenceIdeal.τ).loc Cert.ReferenceIdeal.main_arg0))) →
    ∃ (v0 : Buf (Elt Ideal) (((0 : Dev Cert.ReferenceIdeal.nD).tc : Thread Cert.ReferenceIdeal.nD Cert.ReferenceIdeal.τ).loc Cert.ReferenceIdeal.main_v1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v1) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S32768x1024 : Shape := ⟨2, ![32768, 1024]⟩
abbrev S6x512x1024 : Shape := ⟨3, ![6, 512, 1024]⟩
abbrev S4x512x1024 : Shape := ⟨3, ![4, 512, 1024]⟩
abbrev S4 : Shape := ⟨1, ![4]⟩
abbrev S6 : Shape := ⟨1, ![6]⟩
abbrev S5 : Shape := ⟨1, ![5]⟩
abbrev S16 : Shape := ⟨1, ![16]⟩
abbrev S_ : Shape := ⟨0, ![]⟩
abbrev S1 : Shape := ⟨1, ![1]⟩
abbrev S1x512x1024 : Shape := ⟨3, ![1, 512, 1024]⟩
abbrev S512x1024 : Shape := ⟨2, ![512, 1024]⟩

abbrev nBuf : Space → Nat
  | .hbm => 2
  | .vmem => 2
  | .smem => 0
  | _ => 0

abbrev bufTy : (tb : Table) → Fin (tcTables nBuf tb) → BufTy
  | .hbm, ⟨0, _⟩ => ⟨S32768x1024, .f32⟩
  | .hbm, ⟨1, _⟩ => ⟨S32768x1024, .f32⟩
  | .local _ .vmem, ⟨0, _⟩ => ⟨S6x512x1024, .f32⟩
  | .local _ .vmem, ⟨1, _⟩ => ⟨S4x512x1024, .f32⟩
  | _, _ => ⟨S32768x1024, .f32⟩

abbrev bufScoped : (cs : CoreSpace) → Fin (nBuf (.core cs)) → Bool
  | .vmem, ⟨0, _⟩ => true
  | .vmem, ⟨1, _⟩ => true
  | _, _ => false

abbrev semScoped : Fin 1 → Bool
  | ⟨0, _⟩ => false
  | _ => false

abbrev dmaSemScoped : Fin 80 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | ⟨44, _⟩ => true
  | ⟨45, _⟩ => true
  | ⟨46, _⟩ => true
  | ⟨47, _⟩ => true
  | ⟨48, _⟩ => true
  | ⟨49, _⟩ => true
  | ⟨50, _⟩ => true
  | ⟨51, _⟩ => true
  | ⟨52, _⟩ => true
  | ⟨53, _⟩ => true
  | ⟨54, _⟩ => true
  | ⟨55, _⟩ => true
  | ⟨56, _⟩ => true
  | ⟨57, _⟩ => true
  | ⟨58, _⟩ => true
  | ⟨59, _⟩ => true
  | ⟨60, _⟩ => true
  | ⟨61, _⟩ => true
  | ⟨62, _⟩ => true
  | ⟨63, _⟩ => true
  | ⟨64, _⟩ => true
  | ⟨65, _⟩ => true
  | ⟨66, _⟩ => true
  | ⟨67, _⟩ => true
  | ⟨68, _⟩ => true
  | ⟨69, _⟩ => true
  | ⟨70, _⟩ => true
  | ⟨71, _⟩ => true
  | ⟨72, _⟩ => true
  | ⟨73, _⟩ => true
  | ⟨74, _⟩ => true
  | ⟨75, _⟩ => true
  | ⟨76, _⟩ => true
  | ⟨77, _⟩ => true
  | ⟨78, _⟩ => true
  | ⟨79, _⟩ => true
  | _ => false

abbrev sig : RefSig :=
  (ofTc nBuf bufTy 1 80 bufScoped semScoped dmaSemScoped tileCredit tileCredit_eq_zero tileCredit_pos).withBarriers [(0, 0)]

abbrev main_arg0 : Ref sig .tc := ⟨.hbm, 0, rfl⟩
abbrev main_v1 : Ref sig .tc := ⟨.hbm, 1, rfl⟩
abbrev cc0_scratch0 : Ref sig .tc := ⟨.vmem, 0, rfl⟩
abbrev cc0_scratch1 : Ref sig .tc := ⟨.vmem, 1, rfl⟩
abbrev barrier0 : Sem sig := 0

abbrev nD : Nat := 16
abbrev τ : Topo := Topo.v7x

variable {F : FTy → Type} [FloatOps F]

abbrev grid0 : Pipeline.Grid := .none

def k0_dev1 (d0 : Dev nD) : Nat :=
  let c0_i32 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_16 : BitVec 32 := 8#32
  let v26 : BitVec 32 := Scalar.muli v2 c8_i32_16
  let v27 : BitVec 32 := Scalar.addi c0_i32 v26
  let c1_i32_3 : BitVec 32 := 1#32
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let v10 : BitVec 32 := Scalar.subi c1_i32_3 v5
  let c4_i32_17 : BitVec 32 := 4#32
  let v28 : BitVec 32 := Scalar.muli v10 c4_i32_17
  let v29 : BitVec 32 := Scalar.addi v27 v28
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_18 : BitVec 32 := 1#32
  let v30 : BitVec 32 := Scalar.muli v8 c1_i32_18
  let v31 : BitVec 32 := Scalar.addi v29 v30
  v31.toNat
def k0_dev2 (d0 : Dev nD) : Nat :=
  let c0_i32_21 : BitVec 32 := 0#32
  let c1_i32_4 : BitVec 32 := 1#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let v11 : BitVec 32 := Scalar.subi c1_i32_4 v2
  let c8_i32_20 : BitVec 32 := 8#32
  let v32 : BitVec 32 := Scalar.muli v11 c8_i32_20
  let v33 : BitVec 32 := Scalar.addi c0_i32_21 v32
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_22 : BitVec 32 := 4#32
  let v34 : BitVec 32 := Scalar.muli v5 c4_i32_22
  let v35 : BitVec 32 := Scalar.addi v33 v34
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_23 : BitVec 32 := 1#32
  let v36 : BitVec 32 := Scalar.muli v8 c1_i32_23
  let v37 : BitVec 32 := Scalar.addi v35 v36
  v37.toNat
def k0_dev3 (d0 : Dev nD) : Nat :=
  let c0_i32_26 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_25 : BitVec 32 := 8#32
  let v38 : BitVec 32 := Scalar.muli v2 c8_i32_25
  let v39 : BitVec 32 := Scalar.addi c0_i32_26 v38
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_27 : BitVec 32 := 4#32
  let v40 : BitVec 32 := Scalar.muli v5 c4_i32_27
  let v41 : BitVec 32 := Scalar.addi v39 v40
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_5 : BitVec 32 := 1#32
  let v12 : BitVec 32 := Scalar.addi v8 c1_i32_5
  let c2_i32_6 : BitVec 32 := 2#32
  let c2_i32_2 : BitVec 32 := 2#32
  let v9 : BitVec 32 := Scalar.remsi v8 c2_i32_2
  let v13 : BitVec 32 := Scalar.muli c2_i32_6 v9
  let v14 : BitVec 32 := Scalar.subi v12 v13
  let c1_i32_28 : BitVec 32 := 1#32
  let v42 : BitVec 32 := Scalar.muli v14 c1_i32_28
  let v43 : BitVec 32 := Scalar.addi v41 v42
  v43.toNat
def k0_off1 (d0 : Dev nD) (c0_i32_29 : BitVec 32) : Fin 2 → Nat :=
  let c2_i32_7 : BitVec 32 := 2#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let v15 : BitVec 32 := Scalar.muli c2_i32_7 v2
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c2_i32_2 : BitVec 32 := 2#32
  let v9 : BitVec 32 := Scalar.remsi v8 c2_i32_2
  let v16 : BitVec 32 := Scalar.addi v15 v9
  let c8192_i32 : BitVec 32 := 8192#32
  let v44 : BitVec 32 := Scalar.muli v16 c8192_i32
  let v45 : BitVec 32 := Scalar.addi v44 c0_i32_29
  let c0_i32_39 : BitVec 32 := 0#32
  ![v45.toNat, 0]
def k0_dev4 (d0 : Dev nD) : Nat :=
  let c0_i32_34 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_33 : BitVec 32 := 8#32
  let v46 : BitVec 32 := Scalar.muli v2 c8_i32_33
  let v47 : BitVec 32 := Scalar.addi c0_i32_34 v46
  let c1_i32_3 : BitVec 32 := 1#32
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let v10 : BitVec 32 := Scalar.subi c1_i32_3 v5
  let c4_i32_35 : BitVec 32 := 4#32
  let v48 : BitVec 32 := Scalar.muli v10 c4_i32_35
  let v49 : BitVec 32 := Scalar.addi v47 v48
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_36 : BitVec 32 := 1#32
  let v50 : BitVec 32 := Scalar.muli v8 c1_i32_36
  let v51 : BitVec 32 := Scalar.addi v49 v50
  v51.toNat
def k0_dev5 (d0 : Dev nD) : Nat :=
  let c0_i32_52 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_51 : BitVec 32 := 8#32
  let v68 : BitVec 32 := Scalar.muli v2 c8_i32_51
  let v69 : BitVec 32 := Scalar.addi c0_i32_52 v68
  let c1_i32_3 : BitVec 32 := 1#32
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let v10 : BitVec 32 := Scalar.subi c1_i32_3 v5
  let c4_i32_53 : BitVec 32 := 4#32
  let v70 : BitVec 32 := Scalar.muli v10 c4_i32_53
  let v71 : BitVec 32 := Scalar.addi v69 v70
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_54 : BitVec 32 := 1#32
  let v72 : BitVec 32 := Scalar.muli v8 c1_i32_54
  let v73 : BitVec 32 := Scalar.addi v71 v72
  v73.toNat
def k0_dev6 (d0 : Dev nD) : Nat :=
  let c0_i32_70 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_69 : BitVec 32 := 8#32
  let v90 : BitVec 32 := Scalar.muli v2 c8_i32_69
  let v91 : BitVec 32 := Scalar.addi c0_i32_70 v90
  let c1_i32_3 : BitVec 32 := 1#32
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let v10 : BitVec 32 := Scalar.subi c1_i32_3 v5
  let c4_i32_71 : BitVec 32 := 4#32
  let v92 : BitVec 32 := Scalar.muli v10 c4_i32_71
  let v93 : BitVec 32 := Scalar.addi v91 v92
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_72 : BitVec 32 := 1#32
  let v94 : BitVec 32 := Scalar.muli v8 c1_i32_72
  let v95 : BitVec 32 := Scalar.addi v93 v94
  v95.toNat
def k0_dev7 (d0 : Dev nD) : Nat :=
  let c0_i32_123 : BitVec 32 := 0#32
  let c1_i32_4 : BitVec 32 := 1#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let v11 : BitVec 32 := Scalar.subi c1_i32_4 v2
  let c8_i32_122 : BitVec 32 := 8#32
  let v147 : BitVec 32 := Scalar.muli v11 c8_i32_122
  let v148 : BitVec 32 := Scalar.addi c0_i32_123 v147
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_124 : BitVec 32 := 4#32
  let v149 : BitVec 32 := Scalar.muli v5 c4_i32_124
  let v150 : BitVec 32 := Scalar.addi v148 v149
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_125 : BitVec 32 := 1#32
  let v151 : BitVec 32 := Scalar.muli v8 c1_i32_125
  let v152 : BitVec 32 := Scalar.addi v150 v151
  v152.toNat
def k0_dev8 (d0 : Dev nD) : Nat :=
  let c0_i32_135 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_134 : BitVec 32 := 8#32
  let v162 : BitVec 32 := Scalar.muli v2 c8_i32_134
  let v163 : BitVec 32 := Scalar.addi c0_i32_135 v162
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_136 : BitVec 32 := 4#32
  let v164 : BitVec 32 := Scalar.muli v5 c4_i32_136
  let v165 : BitVec 32 := Scalar.addi v163 v164
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_5 : BitVec 32 := 1#32
  let v12 : BitVec 32 := Scalar.addi v8 c1_i32_5
  let c2_i32_6 : BitVec 32 := 2#32
  let c2_i32_2 : BitVec 32 := 2#32
  let v9 : BitVec 32 := Scalar.remsi v8 c2_i32_2
  let v13 : BitVec 32 := Scalar.muli c2_i32_6 v9
  let v14 : BitVec 32 := Scalar.subi v12 v13
  let c1_i32_137 : BitVec 32 := 1#32
  let v166 : BitVec 32 := Scalar.muli v14 c1_i32_137
  let v167 : BitVec 32 := Scalar.addi v165 v166
  v167.toNat
def k0_dev9 (d0 : Dev nD) : Nat :=
  let c0_i32_146 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_145 : BitVec 32 := 8#32
  let v177 : BitVec 32 := Scalar.muli v2 c8_i32_145
  let v178 : BitVec 32 := Scalar.addi c0_i32_146 v177
  let c1_i32_3 : BitVec 32 := 1#32
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let v10 : BitVec 32 := Scalar.subi c1_i32_3 v5
  let c4_i32_147 : BitVec 32 := 4#32
  let v179 : BitVec 32 := Scalar.muli v10 c4_i32_147
  let v180 : BitVec 32 := Scalar.addi v178 v179
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_148 : BitVec 32 := 1#32
  let v181 : BitVec 32 := Scalar.muli v8 c1_i32_148
  let v182 : BitVec 32 := Scalar.addi v180 v181
  v182.toNat
def k0_dev10 (d0 : Dev nD) : Nat :=
  let c0_i32_199 : BitVec 32 := 0#32
  let c1_i32_4 : BitVec 32 := 1#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let v11 : BitVec 32 := Scalar.subi c1_i32_4 v2
  let c8_i32_198 : BitVec 32 := 8#32
  let v234 : BitVec 32 := Scalar.muli v11 c8_i32_198
  let v235 : BitVec 32 := Scalar.addi c0_i32_199 v234
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_200 : BitVec 32 := 4#32
  let v236 : BitVec 32 := Scalar.muli v5 c4_i32_200
  let v237 : BitVec 32 := Scalar.addi v235 v236
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_201 : BitVec 32 := 1#32
  let v238 : BitVec 32 := Scalar.muli v8 c1_i32_201
  let v239 : BitVec 32 := Scalar.addi v237 v238
  v239.toNat
def k0_dev11 (d0 : Dev nD) : Nat :=
  let c0_i32_211 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_210 : BitVec 32 := 8#32
  let v249 : BitVec 32 := Scalar.muli v2 c8_i32_210
  let v250 : BitVec 32 := Scalar.addi c0_i32_211 v249
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_212 : BitVec 32 := 4#32
  let v251 : BitVec 32 := Scalar.muli v5 c4_i32_212
  let v252 : BitVec 32 := Scalar.addi v250 v251
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_5 : BitVec 32 := 1#32
  let v12 : BitVec 32 := Scalar.addi v8 c1_i32_5
  let c2_i32_6 : BitVec 32 := 2#32
  let c2_i32_2 : BitVec 32 := 2#32
  let v9 : BitVec 32 := Scalar.remsi v8 c2_i32_2
  let v13 : BitVec 32 := Scalar.muli c2_i32_6 v9
  let v14 : BitVec 32 := Scalar.subi v12 v13
  let c1_i32_213 : BitVec 32 := 1#32
  let v253 : BitVec 32 := Scalar.muli v14 c1_i32_213
  let v254 : BitVec 32 := Scalar.addi v252 v253
  v254.toNat
def k0_off2 (d0 : Dev nD) (c0_i32_218 : BitVec 32) : Fin 2 → Nat :=
  let c2_i32_7 : BitVec 32 := 2#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let v15 : BitVec 32 := Scalar.muli c2_i32_7 v2
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c2_i32_2 : BitVec 32 := 2#32
  let v9 : BitVec 32 := Scalar.remsi v8 c2_i32_2
  let v16 : BitVec 32 := Scalar.addi v15 v9
  let c2_i32_8 : BitVec 32 := 2#32
  let v17 : BitVec 32 := Scalar.addi v16 c2_i32_8
  let c4_i32_9 : BitVec 32 := 4#32
  let v18 : BitVec 32 := Scalar.remsi v17 c4_i32_9
  let c8192_i32_217 : BitVec 32 := 8192#32
  let v262 : BitVec 32 := Scalar.muli v18 c8192_i32_217
  let v263 : BitVec 32 := Scalar.addi v262 c0_i32_218
  let c0_i32_226 : BitVec 32 := 0#32
  ![v263.toNat, 0]
def k0_off3 (d0 : Dev nD) (c0_i32_230 : BitVec 32) : Fin 2 → Nat :=
  let c2_i32_7 : BitVec 32 := 2#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let v15 : BitVec 32 := Scalar.muli c2_i32_7 v2
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c2_i32_2 : BitVec 32 := 2#32
  let v9 : BitVec 32 := Scalar.remsi v8 c2_i32_2
  let v16 : BitVec 32 := Scalar.addi v15 v9
  let c1_i32_10 : BitVec 32 := 1#32
  let v19 : BitVec 32 := Scalar.addi v16 c1_i32_10
  let c2_i32_12 : BitVec 32 := 2#32
  let c2_i32_11 : BitVec 32 := 2#32
  let v20 : BitVec 32 := Scalar.remsi v16 c2_i32_11
  let v21 : BitVec 32 := Scalar.muli c2_i32_12 v20
  let v22 : BitVec 32 := Scalar.subi v19 v21
  let c8192_i32_229 : BitVec 32 := 8192#32
  let v275 : BitVec 32 := Scalar.muli v22 c8192_i32_229
  let v276 : BitVec 32 := Scalar.addi v275 c0_i32_230
  let c0_i32_238 : BitVec 32 := 0#32
  ![v276.toNat, 0]
def k0_dev12 (d0 : Dev nD) : Nat :=
  let c0_i32_255 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_254 : BitVec 32 := 8#32
  let v297 : BitVec 32 := Scalar.muli v2 c8_i32_254
  let v298 : BitVec 32 := Scalar.addi c0_i32_255 v297
  let c1_i32_3 : BitVec 32 := 1#32
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let v10 : BitVec 32 := Scalar.subi c1_i32_3 v5
  let c4_i32_256 : BitVec 32 := 4#32
  let v299 : BitVec 32 := Scalar.muli v10 c4_i32_256
  let v300 : BitVec 32 := Scalar.addi v298 v299
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_257 : BitVec 32 := 1#32
  let v301 : BitVec 32 := Scalar.muli v8 c1_i32_257
  let v302 : BitVec 32 := Scalar.addi v300 v301
  v302.toNat
def k0_dev13 (d0 : Dev nD) : Nat :=
  let c0_i32_333 : BitVec 32 := 0#32
  let c1_i32_4 : BitVec 32 := 1#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let v11 : BitVec 32 := Scalar.subi c1_i32_4 v2
  let c8_i32_332 : BitVec 32 := 8#32
  let v375 : BitVec 32 := Scalar.muli v11 c8_i32_332
  let v376 : BitVec 32 := Scalar.addi c0_i32_333 v375
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_334 : BitVec 32 := 4#32
  let v377 : BitVec 32 := Scalar.muli v5 c4_i32_334
  let v378 : BitVec 32 := Scalar.addi v376 v377
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_335 : BitVec 32 := 1#32
  let v379 : BitVec 32 := Scalar.muli v8 c1_i32_335
  let v380 : BitVec 32 := Scalar.addi v378 v379
  v380.toNat
def k0_dev14 (d0 : Dev nD) : Nat :=
  let c0_i32_345 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_344 : BitVec 32 := 8#32
  let v390 : BitVec 32 := Scalar.muli v2 c8_i32_344
  let v391 : BitVec 32 := Scalar.addi c0_i32_345 v390
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_346 : BitVec 32 := 4#32
  let v392 : BitVec 32 := Scalar.muli v5 c4_i32_346
  let v393 : BitVec 32 := Scalar.addi v391 v392
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_5 : BitVec 32 := 1#32
  let v12 : BitVec 32 := Scalar.addi v8 c1_i32_5
  let c2_i32_6 : BitVec 32 := 2#32
  let c2_i32_2 : BitVec 32 := 2#32
  let v9 : BitVec 32 := Scalar.remsi v8 c2_i32_2
  let v13 : BitVec 32 := Scalar.muli c2_i32_6 v9
  let v14 : BitVec 32 := Scalar.subi v12 v13
  let c1_i32_347 : BitVec 32 := 1#32
  let v394 : BitVec 32 := Scalar.muli v14 c1_i32_347
  let v395 : BitVec 32 := Scalar.addi v393 v394
  v395.toNat
def k0_dev15 (d0 : Dev nD) : Nat :=
  let c0_i32_388 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_387 : BitVec 32 := 8#32
  let v438 : BitVec 32 := Scalar.muli v2 c8_i32_387
  let v439 : BitVec 32 := Scalar.addi c0_i32_388 v438
  let c1_i32_3 : BitVec 32 := 1#32
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let v10 : BitVec 32 := Scalar.subi c1_i32_3 v5
  let c4_i32_389 : BitVec 32 := 4#32
  let v440 : BitVec 32 := Scalar.muli v10 c4_i32_389
  let v441 : BitVec 32 := Scalar.addi v439 v440
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_390 : BitVec 32 := 1#32
  let v442 : BitVec 32 := Scalar.muli v8 c1_i32_390
  let v443 : BitVec 32 := Scalar.addi v441 v442
  v443.toNat
def k0_dev16 (d0 : Dev nD) : Nat :=
  let c0_i32_466 : BitVec 32 := 0#32
  let c1_i32_4 : BitVec 32 := 1#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let v11 : BitVec 32 := Scalar.subi c1_i32_4 v2
  let c8_i32_465 : BitVec 32 := 8#32
  let v516 : BitVec 32 := Scalar.muli v11 c8_i32_465
  let v517 : BitVec 32 := Scalar.addi c0_i32_466 v516
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_467 : BitVec 32 := 4#32
  let v518 : BitVec 32 := Scalar.muli v5 c4_i32_467
  let v519 : BitVec 32 := Scalar.addi v517 v518
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_468 : BitVec 32 := 1#32
  let v520 : BitVec 32 := Scalar.muli v8 c1_i32_468
  let v521 : BitVec 32 := Scalar.addi v519 v520
  v521.toNat
def k0_dev17 (d0 : Dev nD) : Nat :=
  let c0_i32_478 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_477 : BitVec 32 := 8#32
  let v531 : BitVec 32 := Scalar.muli v2 c8_i32_477
  let v532 : BitVec 32 := Scalar.addi c0_i32_478 v531
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_479 : BitVec 32 := 4#32
  let v533 : BitVec 32 := Scalar.muli v5 c4_i32_479
  let v534 : BitVec 32 := Scalar.addi v532 v533
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_5 : BitVec 32 := 1#32
  let v12 : BitVec 32 := Scalar.addi v8 c1_i32_5
  let c2_i32_6 : BitVec 32 := 2#32
  let c2_i32_2 : BitVec 32 := 2#32
  let v9 : BitVec 32 := Scalar.remsi v8 c2_i32_2
  let v13 : BitVec 32 := Scalar.muli c2_i32_6 v9
  let v14 : BitVec 32 := Scalar.subi v12 v13
  let c1_i32_480 : BitVec 32 := 1#32
  let v535 : BitVec 32 := Scalar.muli v14 c1_i32_480
  let v536 : BitVec 32 := Scalar.addi v534 v535
  v536.toNat
def k0_dev18 (d0 : Dev nD) : Nat :=
  let c0_i32_522 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_521 : BitVec 32 := 8#32
  let v579 : BitVec 32 := Scalar.muli v2 c8_i32_521
  let v580 : BitVec 32 := Scalar.addi c0_i32_522 v579
  let c1_i32_3 : BitVec 32 := 1#32
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let v10 : BitVec 32 := Scalar.subi c1_i32_3 v5
  let c4_i32_523 : BitVec 32 := 4#32
  let v581 : BitVec 32 := Scalar.muli v10 c4_i32_523
  let v582 : BitVec 32 := Scalar.addi v580 v581
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_524 : BitVec 32 := 1#32
  let v583 : BitVec 32 := Scalar.muli v8 c1_i32_524
  let v584 : BitVec 32 := Scalar.addi v582 v583
  v584.toNat
def k0_dev19 (d0 : Dev nD) : Nat :=
  let c0_i32_600 : BitVec 32 := 0#32
  let c1_i32_4 : BitVec 32 := 1#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let v11 : BitVec 32 := Scalar.subi c1_i32_4 v2
  let c8_i32_599 : BitVec 32 := 8#32
  let v657 : BitVec 32 := Scalar.muli v11 c8_i32_599
  let v658 : BitVec 32 := Scalar.addi c0_i32_600 v657
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_601 : BitVec 32 := 4#32
  let v659 : BitVec 32 := Scalar.muli v5 c4_i32_601
  let v660 : BitVec 32 := Scalar.addi v658 v659
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_602 : BitVec 32 := 1#32
  let v661 : BitVec 32 := Scalar.muli v8 c1_i32_602
  let v662 : BitVec 32 := Scalar.addi v660 v661
  v662.toNat
def k0_dev20 (d0 : Dev nD) : Nat :=
  let c0_i32_612 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_611 : BitVec 32 := 8#32
  let v672 : BitVec 32 := Scalar.muli v2 c8_i32_611
  let v673 : BitVec 32 := Scalar.addi c0_i32_612 v672
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_613 : BitVec 32 := 4#32
  let v674 : BitVec 32 := Scalar.muli v5 c4_i32_613
  let v675 : BitVec 32 := Scalar.addi v673 v674
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_5 : BitVec 32 := 1#32
  let v12 : BitVec 32 := Scalar.addi v8 c1_i32_5
  let c2_i32_6 : BitVec 32 := 2#32
  let c2_i32_2 : BitVec 32 := 2#32
  let v9 : BitVec 32 := Scalar.remsi v8 c2_i32_2
  let v13 : BitVec 32 := Scalar.muli c2_i32_6 v9
  let v14 : BitVec 32 := Scalar.subi v12 v13
  let c1_i32_614 : BitVec 32 := 1#32
  let v676 : BitVec 32 := Scalar.muli v14 c1_i32_614
  let v677 : BitVec 32 := Scalar.addi v675 v676
  v677.toNat
def k0_dev21 (d0 : Dev nD) : Nat :=
  let c0_i32_656 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_655 : BitVec 32 := 8#32
  let v720 : BitVec 32 := Scalar.muli v2 c8_i32_655
  let v721 : BitVec 32 := Scalar.addi c0_i32_656 v720
  let c1_i32_3 : BitVec 32 := 1#32
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let v10 : BitVec 32 := Scalar.subi c1_i32_3 v5
  let c4_i32_657 : BitVec 32 := 4#32
  let v722 : BitVec 32 := Scalar.muli v10 c4_i32_657
  let v723 : BitVec 32 := Scalar.addi v721 v722
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_658 : BitVec 32 := 1#32
  let v724 : BitVec 32 := Scalar.muli v8 c1_i32_658
  let v725 : BitVec 32 := Scalar.addi v723 v724
  v725.toNat
def k0_dev22 (d0 : Dev nD) : Nat :=
  let c0_i32_734 : BitVec 32 := 0#32
  let c1_i32_4 : BitVec 32 := 1#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let v11 : BitVec 32 := Scalar.subi c1_i32_4 v2
  let c8_i32_733 : BitVec 32 := 8#32
  let v798 : BitVec 32 := Scalar.muli v11 c8_i32_733
  let v799 : BitVec 32 := Scalar.addi c0_i32_734 v798
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_735 : BitVec 32 := 4#32
  let v800 : BitVec 32 := Scalar.muli v5 c4_i32_735
  let v801 : BitVec 32 := Scalar.addi v799 v800
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_736 : BitVec 32 := 1#32
  let v802 : BitVec 32 := Scalar.muli v8 c1_i32_736
  let v803 : BitVec 32 := Scalar.addi v801 v802
  v803.toNat
def k0_dev23 (d0 : Dev nD) : Nat :=
  let c0_i32_746 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_745 : BitVec 32 := 8#32
  let v813 : BitVec 32 := Scalar.muli v2 c8_i32_745
  let v814 : BitVec 32 := Scalar.addi c0_i32_746 v813
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_747 : BitVec 32 := 4#32
  let v815 : BitVec 32 := Scalar.muli v5 c4_i32_747
  let v816 : BitVec 32 := Scalar.addi v814 v815
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_5 : BitVec 32 := 1#32
  let v12 : BitVec 32 := Scalar.addi v8 c1_i32_5
  let c2_i32_6 : BitVec 32 := 2#32
  let c2_i32_2 : BitVec 32 := 2#32
  let v9 : BitVec 32 := Scalar.remsi v8 c2_i32_2
  let v13 : BitVec 32 := Scalar.muli c2_i32_6 v9
  let v14 : BitVec 32 := Scalar.subi v12 v13
  let c1_i32_748 : BitVec 32 := 1#32
  let v817 : BitVec 32 := Scalar.muli v14 c1_i32_748
  let v818 : BitVec 32 := Scalar.addi v816 v817
  v818.toNat
def k0_dev24 (d0 : Dev nD) : Nat :=
  let c0_i32_790 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_789 : BitVec 32 := 8#32
  let v861 : BitVec 32 := Scalar.muli v2 c8_i32_789
  let v862 : BitVec 32 := Scalar.addi c0_i32_790 v861
  let c1_i32_3 : BitVec 32 := 1#32
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let v10 : BitVec 32 := Scalar.subi c1_i32_3 v5
  let c4_i32_791 : BitVec 32 := 4#32
  let v863 : BitVec 32 := Scalar.muli v10 c4_i32_791
  let v864 : BitVec 32 := Scalar.addi v862 v863
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_792 : BitVec 32 := 1#32
  let v865 : BitVec 32 := Scalar.muli v8 c1_i32_792
  let v866 : BitVec 32 := Scalar.addi v864 v865
  v866.toNat
def k0_dev25 (d0 : Dev nD) : Nat :=
  let c0_i32_868 : BitVec 32 := 0#32
  let c1_i32_4 : BitVec 32 := 1#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let v11 : BitVec 32 := Scalar.subi c1_i32_4 v2
  let c8_i32_867 : BitVec 32 := 8#32
  let v939 : BitVec 32 := Scalar.muli v11 c8_i32_867
  let v940 : BitVec 32 := Scalar.addi c0_i32_868 v939
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_869 : BitVec 32 := 4#32
  let v941 : BitVec 32 := Scalar.muli v5 c4_i32_869
  let v942 : BitVec 32 := Scalar.addi v940 v941
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_870 : BitVec 32 := 1#32
  let v943 : BitVec 32 := Scalar.muli v8 c1_i32_870
  let v944 : BitVec 32 := Scalar.addi v942 v943
  v944.toNat
def k0_dev26 (d0 : Dev nD) : Nat :=
  let c0_i32_880 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_879 : BitVec 32 := 8#32
  let v954 : BitVec 32 := Scalar.muli v2 c8_i32_879
  let v955 : BitVec 32 := Scalar.addi c0_i32_880 v954
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_881 : BitVec 32 := 4#32
  let v956 : BitVec 32 := Scalar.muli v5 c4_i32_881
  let v957 : BitVec 32 := Scalar.addi v955 v956
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_5 : BitVec 32 := 1#32
  let v12 : BitVec 32 := Scalar.addi v8 c1_i32_5
  let c2_i32_6 : BitVec 32 := 2#32
  let c2_i32_2 : BitVec 32 := 2#32
  let v9 : BitVec 32 := Scalar.remsi v8 c2_i32_2
  let v13 : BitVec 32 := Scalar.muli c2_i32_6 v9
  let v14 : BitVec 32 := Scalar.subi v12 v13
  let c1_i32_882 : BitVec 32 := 1#32
  let v958 : BitVec 32 := Scalar.muli v14 c1_i32_882
  let v959 : BitVec 32 := Scalar.addi v957 v958
  v959.toNat
def k0_dev27 (d0 : Dev nD) : Nat :=
  let c0_i32_917 : BitVec 32 := 0#32
  let c1_i32_4 : BitVec 32 := 1#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let v11 : BitVec 32 := Scalar.subi c1_i32_4 v2
  let c8_i32_916 : BitVec 32 := 8#32
  let v997 : BitVec 32 := Scalar.muli v11 c8_i32_916
  let v998 : BitVec 32 := Scalar.addi c0_i32_917 v997
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_918 : BitVec 32 := 4#32
  let v999 : BitVec 32 := Scalar.muli v5 c4_i32_918
  let v1000 : BitVec 32 := Scalar.addi v998 v999
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_919 : BitVec 32 := 1#32
  let v1001 : BitVec 32 := Scalar.muli v8 c1_i32_919
  let v1002 : BitVec 32 := Scalar.addi v1000 v1001
  v1002.toNat
def k0_dev28 (d0 : Dev nD) : Nat :=
  let c0_i32_936 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_935 : BitVec 32 := 8#32
  let v1018 : BitVec 32 := Scalar.muli v2 c8_i32_935
  let v1019 : BitVec 32 := Scalar.addi c0_i32_936 v1018
  let c1_i32_3 : BitVec 32 := 1#32
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let v10 : BitVec 32 := Scalar.subi c1_i32_3 v5
  let c4_i32_937 : BitVec 32 := 4#32
  let v1020 : BitVec 32 := Scalar.muli v10 c4_i32_937
  let v1021 : BitVec 32 := Scalar.addi v1019 v1020
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_938 : BitVec 32 := 1#32
  let v1022 : BitVec 32 := Scalar.muli v8 c1_i32_938
  let v1023 : BitVec 32 := Scalar.addi v1021 v1022
  v1023.toNat
def k0_dev29 (d0 : Dev nD) : Nat :=
  let c0_i32_1014 : BitVec 32 := 0#32
  let c1_i32_4 : BitVec 32 := 1#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let v11 : BitVec 32 := Scalar.subi c1_i32_4 v2
  let c8_i32_1013 : BitVec 32 := 8#32
  let v1096 : BitVec 32 := Scalar.muli v11 c8_i32_1013
  let v1097 : BitVec 32 := Scalar.addi c0_i32_1014 v1096
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_1015 : BitVec 32 := 4#32
  let v1098 : BitVec 32 := Scalar.muli v5 c4_i32_1015
  let v1099 : BitVec 32 := Scalar.addi v1097 v1098
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_1016 : BitVec 32 := 1#32
  let v1100 : BitVec 32 := Scalar.muli v8 c1_i32_1016
  let v1101 : BitVec 32 := Scalar.addi v1099 v1100
  v1101.toNat
def k0_dev30 (d0 : Dev nD) : Nat :=
  let c0_i32_1026 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_1025 : BitVec 32 := 8#32
  let v1111 : BitVec 32 := Scalar.muli v2 c8_i32_1025
  let v1112 : BitVec 32 := Scalar.addi c0_i32_1026 v1111
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_1027 : BitVec 32 := 4#32
  let v1113 : BitVec 32 := Scalar.muli v5 c4_i32_1027
  let v1114 : BitVec 32 := Scalar.addi v1112 v1113
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_5 : BitVec 32 := 1#32
  let v12 : BitVec 32 := Scalar.addi v8 c1_i32_5
  let c2_i32_6 : BitVec 32 := 2#32
  let c2_i32_2 : BitVec 32 := 2#32
  let v9 : BitVec 32 := Scalar.remsi v8 c2_i32_2
  let v13 : BitVec 32 := Scalar.muli c2_i32_6 v9
  let v14 : BitVec 32 := Scalar.subi v12 v13
  let c1_i32_1028 : BitVec 32 := 1#32
  let v1115 : BitVec 32 := Scalar.muli v14 c1_i32_1028
  let v1116 : BitVec 32 := Scalar.addi v1114 v1115
  v1116.toNat
def k0_dev31 (d0 : Dev nD) : Nat :=
  let c0_i32_1063 : BitVec 32 := 0#32
  let c1_i32_4 : BitVec 32 := 1#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let v11 : BitVec 32 := Scalar.subi c1_i32_4 v2
  let c8_i32_1062 : BitVec 32 := 8#32
  let v1154 : BitVec 32 := Scalar.muli v11 c8_i32_1062
  let v1155 : BitVec 32 := Scalar.addi c0_i32_1063 v1154
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_1064 : BitVec 32 := 4#32
  let v1156 : BitVec 32 := Scalar.muli v5 c4_i32_1064
  let v1157 : BitVec 32 := Scalar.addi v1155 v1156
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_1065 : BitVec 32 := 1#32
  let v1158 : BitVec 32 := Scalar.muli v8 c1_i32_1065
  let v1159 : BitVec 32 := Scalar.addi v1157 v1158
  v1159.toNat
def k0_dev32 (d0 : Dev nD) : Nat :=
  let c0_i32_1082 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_1081 : BitVec 32 := 8#32
  let v1175 : BitVec 32 := Scalar.muli v2 c8_i32_1081
  let v1176 : BitVec 32 := Scalar.addi c0_i32_1082 v1175
  let c1_i32_3 : BitVec 32 := 1#32
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let v10 : BitVec 32 := Scalar.subi c1_i32_3 v5
  let c4_i32_1083 : BitVec 32 := 4#32
  let v1177 : BitVec 32 := Scalar.muli v10 c4_i32_1083
  let v1178 : BitVec 32 := Scalar.addi v1176 v1177
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_1084 : BitVec 32 := 1#32
  let v1179 : BitVec 32 := Scalar.muli v8 c1_i32_1084
  let v1180 : BitVec 32 := Scalar.addi v1178 v1179
  v1180.toNat
def k0_dev33 (d0 : Dev nD) : Nat :=
  let c0_i32_1161 : BitVec 32 := 0#32
  let c1_i32_4 : BitVec 32 := 1#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let v11 : BitVec 32 := Scalar.subi c1_i32_4 v2
  let c8_i32_1160 : BitVec 32 := 8#32
  let v1253 : BitVec 32 := Scalar.muli v11 c8_i32_1160
  let v1254 : BitVec 32 := Scalar.addi c0_i32_1161 v1253
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_1162 : BitVec 32 := 4#32
  let v1255 : BitVec 32 := Scalar.muli v5 c4_i32_1162
  let v1256 : BitVec 32 := Scalar.addi v1254 v1255
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_1163 : BitVec 32 := 1#32
  let v1257 : BitVec 32 := Scalar.muli v8 c1_i32_1163
  let v1258 : BitVec 32 := Scalar.addi v1256 v1257
  v1258.toNat
def k0_dev34 (d0 : Dev nD) : Nat :=
  let c0_i32_1173 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_1172 : BitVec 32 := 8#32
  let v1268 : BitVec 32 := Scalar.muli v2 c8_i32_1172
  let v1269 : BitVec 32 := Scalar.addi c0_i32_1173 v1268
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_1174 : BitVec 32 := 4#32
  let v1270 : BitVec 32 := Scalar.muli v5 c4_i32_1174
  let v1271 : BitVec 32 := Scalar.addi v1269 v1270
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_5 : BitVec 32 := 1#32
  let v12 : BitVec 32 := Scalar.addi v8 c1_i32_5
  let c2_i32_6 : BitVec 32 := 2#32
  let c2_i32_2 : BitVec 32 := 2#32
  let v9 : BitVec 32 := Scalar.remsi v8 c2_i32_2
  let v13 : BitVec 32 := Scalar.muli c2_i32_6 v9
  let v14 : BitVec 32 := Scalar.subi v12 v13
  let c1_i32_1175 : BitVec 32 := 1#32
  let v1272 : BitVec 32 := Scalar.muli v14 c1_i32_1175
  let v1273 : BitVec 32 := Scalar.addi v1271 v1272
  v1273.toNat
def k0_dev35 (d0 : Dev nD) : Nat :=
  let c0_i32_1210 : BitVec 32 := 0#32
  let c1_i32_4 : BitVec 32 := 1#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let v11 : BitVec 32 := Scalar.subi c1_i32_4 v2
  let c8_i32_1209 : BitVec 32 := 8#32
  let v1311 : BitVec 32 := Scalar.muli v11 c8_i32_1209
  let v1312 : BitVec 32 := Scalar.addi c0_i32_1210 v1311
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_1211 : BitVec 32 := 4#32
  let v1313 : BitVec 32 := Scalar.muli v5 c4_i32_1211
  let v1314 : BitVec 32 := Scalar.addi v1312 v1313
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_1212 : BitVec 32 := 1#32
  let v1315 : BitVec 32 := Scalar.muli v8 c1_i32_1212
  let v1316 : BitVec 32 := Scalar.addi v1314 v1315
  v1316.toNat
def k0_off4 (d0 : Dev nD) (c2560_i32_1218 : BitVec 32) : Fin 2 → Nat :=
  let c2_i32_7 : BitVec 32 := 2#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let v15 : BitVec 32 := Scalar.muli c2_i32_7 v2
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c2_i32_2 : BitVec 32 := 2#32
  let v9 : BitVec 32 := Scalar.remsi v8 c2_i32_2
  let v16 : BitVec 32 := Scalar.addi v15 v9
  let c1_i32_10 : BitVec 32 := 1#32
  let v19 : BitVec 32 := Scalar.addi v16 c1_i32_10
  let c2_i32_12 : BitVec 32 := 2#32
  let c2_i32_11 : BitVec 32 := 2#32
  let v20 : BitVec 32 := Scalar.remsi v16 c2_i32_11
  let v21 : BitVec 32 := Scalar.muli c2_i32_12 v20
  let v22 : BitVec 32 := Scalar.subi v19 v21
  let c2_i32_13 : BitVec 32 := 2#32
  let v23 : BitVec 32 := Scalar.addi v22 c2_i32_13
  let c4_i32_14 : BitVec 32 := 4#32
  let v24 : BitVec 32 := Scalar.remsi v23 c4_i32_14
  let c8192_i32_1217 : BitVec 32 := 8192#32
  let v1325 : BitVec 32 := Scalar.muli v24 c8192_i32_1217
  let v1326 : BitVec 32 := Scalar.addi v1325 c2560_i32_1218
  let c0_i32_1225 : BitVec 32 := 0#32
  ![v1326.toNat, 0]
def k0_dev36 (d0 : Dev nD) : Nat :=
  let c0_i32_1241 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_1240 : BitVec 32 := 8#32
  let v1346 : BitVec 32 := Scalar.muli v2 c8_i32_1240
  let v1347 : BitVec 32 := Scalar.addi c0_i32_1241 v1346
  let c1_i32_3 : BitVec 32 := 1#32
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let v10 : BitVec 32 := Scalar.subi c1_i32_3 v5
  let c4_i32_1242 : BitVec 32 := 4#32
  let v1348 : BitVec 32 := Scalar.muli v10 c4_i32_1242
  let v1349 : BitVec 32 := Scalar.addi v1347 v1348
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_1243 : BitVec 32 := 1#32
  let v1350 : BitVec 32 := Scalar.muli v8 c1_i32_1243
  let v1351 : BitVec 32 := Scalar.addi v1349 v1350
  v1351.toNat
def k0_dev37 (d0 : Dev nD) : Nat :=
  let c0_i32_1319 : BitVec 32 := 0#32
  let c1_i32_4 : BitVec 32 := 1#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let v11 : BitVec 32 := Scalar.subi c1_i32_4 v2
  let c8_i32_1318 : BitVec 32 := 8#32
  let v1424 : BitVec 32 := Scalar.muli v11 c8_i32_1318
  let v1425 : BitVec 32 := Scalar.addi c0_i32_1319 v1424
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_1320 : BitVec 32 := 4#32
  let v1426 : BitVec 32 := Scalar.muli v5 c4_i32_1320
  let v1427 : BitVec 32 := Scalar.addi v1425 v1426
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_1321 : BitVec 32 := 1#32
  let v1428 : BitVec 32 := Scalar.muli v8 c1_i32_1321
  let v1429 : BitVec 32 := Scalar.addi v1427 v1428
  v1429.toNat
def k0_dev38 (d0 : Dev nD) : Nat :=
  let c0_i32_1331 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_1330 : BitVec 32 := 8#32
  let v1439 : BitVec 32 := Scalar.muli v2 c8_i32_1330
  let v1440 : BitVec 32 := Scalar.addi c0_i32_1331 v1439
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_1332 : BitVec 32 := 4#32
  let v1441 : BitVec 32 := Scalar.muli v5 c4_i32_1332
  let v1442 : BitVec 32 := Scalar.addi v1440 v1441
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_5 : BitVec 32 := 1#32
  let v12 : BitVec 32 := Scalar.addi v8 c1_i32_5
  let c2_i32_6 : BitVec 32 := 2#32
  let c2_i32_2 : BitVec 32 := 2#32
  let v9 : BitVec 32 := Scalar.remsi v8 c2_i32_2
  let v13 : BitVec 32 := Scalar.muli c2_i32_6 v9
  let v14 : BitVec 32 := Scalar.subi v12 v13
  let c1_i32_1333 : BitVec 32 := 1#32
  let v1443 : BitVec 32 := Scalar.muli v14 c1_i32_1333
  let v1444 : BitVec 32 := Scalar.addi v1442 v1443
  v1444.toNat
def k0_dev39 (d0 : Dev nD) : Nat :=
  let c0_i32_1368 : BitVec 32 := 0#32
  let c1_i32_4 : BitVec 32 := 1#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let v11 : BitVec 32 := Scalar.subi c1_i32_4 v2
  let c8_i32_1367 : BitVec 32 := 8#32
  let v1482 : BitVec 32 := Scalar.muli v11 c8_i32_1367
  let v1483 : BitVec 32 := Scalar.addi c0_i32_1368 v1482
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_1369 : BitVec 32 := 4#32
  let v1484 : BitVec 32 := Scalar.muli v5 c4_i32_1369
  let v1485 : BitVec 32 := Scalar.addi v1483 v1484
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_1370 : BitVec 32 := 1#32
  let v1486 : BitVec 32 := Scalar.muli v8 c1_i32_1370
  let v1487 : BitVec 32 := Scalar.addi v1485 v1486
  v1487.toNat
def k0_dev40 (d0 : Dev nD) : Nat :=
  let c0_i32_1399 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_1398 : BitVec 32 := 8#32
  let v1517 : BitVec 32 := Scalar.muli v2 c8_i32_1398
  let v1518 : BitVec 32 := Scalar.addi c0_i32_1399 v1517
  let c1_i32_3 : BitVec 32 := 1#32
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let v10 : BitVec 32 := Scalar.subi c1_i32_3 v5
  let c4_i32_1400 : BitVec 32 := 4#32
  let v1519 : BitVec 32 := Scalar.muli v10 c4_i32_1400
  let v1520 : BitVec 32 := Scalar.addi v1518 v1519
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_1401 : BitVec 32 := 1#32
  let v1521 : BitVec 32 := Scalar.muli v8 c1_i32_1401
  let v1522 : BitVec 32 := Scalar.addi v1520 v1521
  v1522.toNat
def k0_dev41 (d0 : Dev nD) : Nat :=
  let c0_i32_1477 : BitVec 32 := 0#32
  let c1_i32_4 : BitVec 32 := 1#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let v11 : BitVec 32 := Scalar.subi c1_i32_4 v2
  let c8_i32_1476 : BitVec 32 := 8#32
  let v1595 : BitVec 32 := Scalar.muli v11 c8_i32_1476
  let v1596 : BitVec 32 := Scalar.addi c0_i32_1477 v1595
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_1478 : BitVec 32 := 4#32
  let v1597 : BitVec 32 := Scalar.muli v5 c4_i32_1478
  let v1598 : BitVec 32 := Scalar.addi v1596 v1597
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_1479 : BitVec 32 := 1#32
  let v1599 : BitVec 32 := Scalar.muli v8 c1_i32_1479
  let v1600 : BitVec 32 := Scalar.addi v1598 v1599
  v1600.toNat
def k0_dev42 (d0 : Dev nD) : Nat :=
  let c0_i32_1489 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_1488 : BitVec 32 := 8#32
  let v1610 : BitVec 32 := Scalar.muli v2 c8_i32_1488
  let v1611 : BitVec 32 := Scalar.addi c0_i32_1489 v1610
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_1490 : BitVec 32 := 4#32
  let v1612 : BitVec 32 := Scalar.muli v5 c4_i32_1490
  let v1613 : BitVec 32 := Scalar.addi v1611 v1612
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_5 : BitVec 32 := 1#32
  let v12 : BitVec 32 := Scalar.addi v8 c1_i32_5
  let c2_i32_6 : BitVec 32 := 2#32
  let c2_i32_2 : BitVec 32 := 2#32
  let v9 : BitVec 32 := Scalar.remsi v8 c2_i32_2
  let v13 : BitVec 32 := Scalar.muli c2_i32_6 v9
  let v14 : BitVec 32 := Scalar.subi v12 v13
  let c1_i32_1491 : BitVec 32 := 1#32
  let v1614 : BitVec 32 := Scalar.muli v14 c1_i32_1491
  let v1615 : BitVec 32 := Scalar.addi v1613 v1614
  v1615.toNat
def k0_dev43 (d0 : Dev nD) : Nat :=
  let c0_i32_1526 : BitVec 32 := 0#32
  let c1_i32_4 : BitVec 32 := 1#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let v11 : BitVec 32 := Scalar.subi c1_i32_4 v2
  let c8_i32_1525 : BitVec 32 := 8#32
  let v1653 : BitVec 32 := Scalar.muli v11 c8_i32_1525
  let v1654 : BitVec 32 := Scalar.addi c0_i32_1526 v1653
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_1527 : BitVec 32 := 4#32
  let v1655 : BitVec 32 := Scalar.muli v5 c4_i32_1527
  let v1656 : BitVec 32 := Scalar.addi v1654 v1655
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_1528 : BitVec 32 := 1#32
  let v1657 : BitVec 32 := Scalar.muli v8 c1_i32_1528
  let v1658 : BitVec 32 := Scalar.addi v1656 v1657
  v1658.toNat
def k0_dev44 (d0 : Dev nD) : Nat :=
  let c0_i32_1557 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_1556 : BitVec 32 := 8#32
  let v1688 : BitVec 32 := Scalar.muli v2 c8_i32_1556
  let v1689 : BitVec 32 := Scalar.addi c0_i32_1557 v1688
  let c1_i32_3 : BitVec 32 := 1#32
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let v10 : BitVec 32 := Scalar.subi c1_i32_3 v5
  let c4_i32_1558 : BitVec 32 := 4#32
  let v1690 : BitVec 32 := Scalar.muli v10 c4_i32_1558
  let v1691 : BitVec 32 := Scalar.addi v1689 v1690
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_1559 : BitVec 32 := 1#32
  let v1692 : BitVec 32 := Scalar.muli v8 c1_i32_1559
  let v1693 : BitVec 32 := Scalar.addi v1691 v1692
  v1693.toNat
def k0_dev45 (d0 : Dev nD) : Nat :=
  let c0_i32_1635 : BitVec 32 := 0#32
  let c1_i32_4 : BitVec 32 := 1#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let v11 : BitVec 32 := Scalar.subi c1_i32_4 v2
  let c8_i32_1634 : BitVec 32 := 8#32
  let v1766 : BitVec 32 := Scalar.muli v11 c8_i32_1634
  let v1767 : BitVec 32 := Scalar.addi c0_i32_1635 v1766
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_1636 : BitVec 32 := 4#32
  let v1768 : BitVec 32 := Scalar.muli v5 c4_i32_1636
  let v1769 : BitVec 32 := Scalar.addi v1767 v1768
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_1637 : BitVec 32 := 1#32
  let v1770 : BitVec 32 := Scalar.muli v8 c1_i32_1637
  let v1771 : BitVec 32 := Scalar.addi v1769 v1770
  v1771.toNat
def k0_dev46 (d0 : Dev nD) : Nat :=
  let c0_i32_1647 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_1646 : BitVec 32 := 8#32
  let v1781 : BitVec 32 := Scalar.muli v2 c8_i32_1646
  let v1782 : BitVec 32 := Scalar.addi c0_i32_1647 v1781
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_1648 : BitVec 32 := 4#32
  let v1783 : BitVec 32 := Scalar.muli v5 c4_i32_1648
  let v1784 : BitVec 32 := Scalar.addi v1782 v1783
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_5 : BitVec 32 := 1#32
  let v12 : BitVec 32 := Scalar.addi v8 c1_i32_5
  let c2_i32_6 : BitVec 32 := 2#32
  let c2_i32_2 : BitVec 32 := 2#32
  let v9 : BitVec 32 := Scalar.remsi v8 c2_i32_2
  let v13 : BitVec 32 := Scalar.muli c2_i32_6 v9
  let v14 : BitVec 32 := Scalar.subi v12 v13
  let c1_i32_1649 : BitVec 32 := 1#32
  let v1785 : BitVec 32 := Scalar.muli v14 c1_i32_1649
  let v1786 : BitVec 32 := Scalar.addi v1784 v1785
  v1786.toNat
def k0_dev47 (d0 : Dev nD) : Nat :=
  let c0_i32_1672 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_1671 : BitVec 32 := 8#32
  let v1811 : BitVec 32 := Scalar.muli v2 c8_i32_1671
  let v1812 : BitVec 32 := Scalar.addi c0_i32_1672 v1811
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_1673 : BitVec 32 := 4#32
  let v1813 : BitVec 32 := Scalar.muli v5 c4_i32_1673
  let v1814 : BitVec 32 := Scalar.addi v1812 v1813
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_5 : BitVec 32 := 1#32
  let v12 : BitVec 32 := Scalar.addi v8 c1_i32_5
  let c2_i32_6 : BitVec 32 := 2#32
  let c2_i32_2 : BitVec 32 := 2#32
  let v9 : BitVec 32 := Scalar.remsi v8 c2_i32_2
  let v13 : BitVec 32 := Scalar.muli c2_i32_6 v9
  let v14 : BitVec 32 := Scalar.subi v12 v13
  let c1_i32_1674 : BitVec 32 := 1#32
  let v1815 : BitVec 32 := Scalar.muli v14 c1_i32_1674
  let v1816 : BitVec 32 := Scalar.addi v1814 v1815
  v1816.toNat
def k0_dev48 (d0 : Dev nD) : Nat :=
  let c0_i32_1715 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_1714 : BitVec 32 := 8#32
  let v1859 : BitVec 32 := Scalar.muli v2 c8_i32_1714
  let v1860 : BitVec 32 := Scalar.addi c0_i32_1715 v1859
  let c1_i32_3 : BitVec 32 := 1#32
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let v10 : BitVec 32 := Scalar.subi c1_i32_3 v5
  let c4_i32_1716 : BitVec 32 := 4#32
  let v1861 : BitVec 32 := Scalar.muli v10 c4_i32_1716
  let v1862 : BitVec 32 := Scalar.addi v1860 v1861
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_1717 : BitVec 32 := 1#32
  let v1863 : BitVec 32 := Scalar.muli v8 c1_i32_1717
  let v1864 : BitVec 32 := Scalar.addi v1862 v1863
  v1864.toNat
def k0_dev49 (d0 : Dev nD) : Nat :=
  let c0_i32_1793 : BitVec 32 := 0#32
  let c1_i32_4 : BitVec 32 := 1#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let v11 : BitVec 32 := Scalar.subi c1_i32_4 v2
  let c8_i32_1792 : BitVec 32 := 8#32
  let v1937 : BitVec 32 := Scalar.muli v11 c8_i32_1792
  let v1938 : BitVec 32 := Scalar.addi c0_i32_1793 v1937
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_1794 : BitVec 32 := 4#32
  let v1939 : BitVec 32 := Scalar.muli v5 c4_i32_1794
  let v1940 : BitVec 32 := Scalar.addi v1938 v1939
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_1795 : BitVec 32 := 1#32
  let v1941 : BitVec 32 := Scalar.muli v8 c1_i32_1795
  let v1942 : BitVec 32 := Scalar.addi v1940 v1941
  v1942.toNat
def k0_dev50 (d0 : Dev nD) : Nat :=
  let c0_i32_1805 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_1804 : BitVec 32 := 8#32
  let v1952 : BitVec 32 := Scalar.muli v2 c8_i32_1804
  let v1953 : BitVec 32 := Scalar.addi c0_i32_1805 v1952
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_1806 : BitVec 32 := 4#32
  let v1954 : BitVec 32 := Scalar.muli v5 c4_i32_1806
  let v1955 : BitVec 32 := Scalar.addi v1953 v1954
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_5 : BitVec 32 := 1#32
  let v12 : BitVec 32 := Scalar.addi v8 c1_i32_5
  let c2_i32_6 : BitVec 32 := 2#32
  let c2_i32_2 : BitVec 32 := 2#32
  let v9 : BitVec 32 := Scalar.remsi v8 c2_i32_2
  let v13 : BitVec 32 := Scalar.muli c2_i32_6 v9
  let v14 : BitVec 32 := Scalar.subi v12 v13
  let c1_i32_1807 : BitVec 32 := 1#32
  let v1956 : BitVec 32 := Scalar.muli v14 c1_i32_1807
  let v1957 : BitVec 32 := Scalar.addi v1955 v1956
  v1957.toNat
def k0_dev51 (d0 : Dev nD) : Nat :=
  let c0_i32_1830 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_1829 : BitVec 32 := 8#32
  let v1982 : BitVec 32 := Scalar.muli v2 c8_i32_1829
  let v1983 : BitVec 32 := Scalar.addi c0_i32_1830 v1982
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_1831 : BitVec 32 := 4#32
  let v1984 : BitVec 32 := Scalar.muli v5 c4_i32_1831
  let v1985 : BitVec 32 := Scalar.addi v1983 v1984
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_5 : BitVec 32 := 1#32
  let v12 : BitVec 32 := Scalar.addi v8 c1_i32_5
  let c2_i32_6 : BitVec 32 := 2#32
  let c2_i32_2 : BitVec 32 := 2#32
  let v9 : BitVec 32 := Scalar.remsi v8 c2_i32_2
  let v13 : BitVec 32 := Scalar.muli c2_i32_6 v9
  let v14 : BitVec 32 := Scalar.subi v12 v13
  let c1_i32_1832 : BitVec 32 := 1#32
  let v1986 : BitVec 32 := Scalar.muli v14 c1_i32_1832
  let v1987 : BitVec 32 := Scalar.addi v1985 v1986
  v1987.toNat
def k0_dev52 (d0 : Dev nD) : Nat :=
  let c0_i32_1873 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_1872 : BitVec 32 := 8#32
  let v2030 : BitVec 32 := Scalar.muli v2 c8_i32_1872
  let v2031 : BitVec 32 := Scalar.addi c0_i32_1873 v2030
  let c1_i32_3 : BitVec 32 := 1#32
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let v10 : BitVec 32 := Scalar.subi c1_i32_3 v5
  let c4_i32_1874 : BitVec 32 := 4#32
  let v2032 : BitVec 32 := Scalar.muli v10 c4_i32_1874
  let v2033 : BitVec 32 := Scalar.addi v2031 v2032
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_1875 : BitVec 32 := 1#32
  let v2034 : BitVec 32 := Scalar.muli v8 c1_i32_1875
  let v2035 : BitVec 32 := Scalar.addi v2033 v2034
  v2035.toNat
def k0_dev53 (d0 : Dev nD) : Nat :=
  let c0_i32_1951 : BitVec 32 := 0#32
  let c1_i32_4 : BitVec 32 := 1#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let v11 : BitVec 32 := Scalar.subi c1_i32_4 v2
  let c8_i32_1950 : BitVec 32 := 8#32
  let v2108 : BitVec 32 := Scalar.muli v11 c8_i32_1950
  let v2109 : BitVec 32 := Scalar.addi c0_i32_1951 v2108
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_1952 : BitVec 32 := 4#32
  let v2110 : BitVec 32 := Scalar.muli v5 c4_i32_1952
  let v2111 : BitVec 32 := Scalar.addi v2109 v2110
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_1953 : BitVec 32 := 1#32
  let v2112 : BitVec 32 := Scalar.muli v8 c1_i32_1953
  let v2113 : BitVec 32 := Scalar.addi v2111 v2112
  v2113.toNat
def k0_dev54 (d0 : Dev nD) : Nat :=
  let c0_i32_1963 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_1962 : BitVec 32 := 8#32
  let v2123 : BitVec 32 := Scalar.muli v2 c8_i32_1962
  let v2124 : BitVec 32 := Scalar.addi c0_i32_1963 v2123
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_1964 : BitVec 32 := 4#32
  let v2125 : BitVec 32 := Scalar.muli v5 c4_i32_1964
  let v2126 : BitVec 32 := Scalar.addi v2124 v2125
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_5 : BitVec 32 := 1#32
  let v12 : BitVec 32 := Scalar.addi v8 c1_i32_5
  let c2_i32_6 : BitVec 32 := 2#32
  let c2_i32_2 : BitVec 32 := 2#32
  let v9 : BitVec 32 := Scalar.remsi v8 c2_i32_2
  let v13 : BitVec 32 := Scalar.muli c2_i32_6 v9
  let v14 : BitVec 32 := Scalar.subi v12 v13
  let c1_i32_1965 : BitVec 32 := 1#32
  let v2127 : BitVec 32 := Scalar.muli v14 c1_i32_1965
  let v2128 : BitVec 32 := Scalar.addi v2126 v2127
  v2128.toNat
def k0_dev55 (d0 : Dev nD) : Nat :=
  let c0_i32_1988 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_1987 : BitVec 32 := 8#32
  let v2153 : BitVec 32 := Scalar.muli v2 c8_i32_1987
  let v2154 : BitVec 32 := Scalar.addi c0_i32_1988 v2153
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_1989 : BitVec 32 := 4#32
  let v2155 : BitVec 32 := Scalar.muli v5 c4_i32_1989
  let v2156 : BitVec 32 := Scalar.addi v2154 v2155
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_5 : BitVec 32 := 1#32
  let v12 : BitVec 32 := Scalar.addi v8 c1_i32_5
  let c2_i32_6 : BitVec 32 := 2#32
  let c2_i32_2 : BitVec 32 := 2#32
  let v9 : BitVec 32 := Scalar.remsi v8 c2_i32_2
  let v13 : BitVec 32 := Scalar.muli c2_i32_6 v9
  let v14 : BitVec 32 := Scalar.subi v12 v13
  let c1_i32_1990 : BitVec 32 := 1#32
  let v2157 : BitVec 32 := Scalar.muli v14 c1_i32_1990
  let v2158 : BitVec 32 := Scalar.addi v2156 v2157
  v2158.toNat
def k0_dev56 (d0 : Dev nD) : Nat :=
  let c0_i32_2032 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_2031 : BitVec 32 := 8#32
  let v2201 : BitVec 32 := Scalar.muli v2 c8_i32_2031
  let v2202 : BitVec 32 := Scalar.addi c0_i32_2032 v2201
  let c1_i32_3 : BitVec 32 := 1#32
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let v10 : BitVec 32 := Scalar.subi c1_i32_3 v5
  let c4_i32_2033 : BitVec 32 := 4#32
  let v2203 : BitVec 32 := Scalar.muli v10 c4_i32_2033
  let v2204 : BitVec 32 := Scalar.addi v2202 v2203
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_2034 : BitVec 32 := 1#32
  let v2205 : BitVec 32 := Scalar.muli v8 c1_i32_2034
  let v2206 : BitVec 32 := Scalar.addi v2204 v2205
  v2206.toNat
def k0_dev57 (d0 : Dev nD) : Nat :=
  let c0_i32_2110 : BitVec 32 := 0#32
  let c1_i32_4 : BitVec 32 := 1#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let v11 : BitVec 32 := Scalar.subi c1_i32_4 v2
  let c8_i32_2109 : BitVec 32 := 8#32
  let v2279 : BitVec 32 := Scalar.muli v11 c8_i32_2109
  let v2280 : BitVec 32 := Scalar.addi c0_i32_2110 v2279
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_2111 : BitVec 32 := 4#32
  let v2281 : BitVec 32 := Scalar.muli v5 c4_i32_2111
  let v2282 : BitVec 32 := Scalar.addi v2280 v2281
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_2112 : BitVec 32 := 1#32
  let v2283 : BitVec 32 := Scalar.muli v8 c1_i32_2112
  let v2284 : BitVec 32 := Scalar.addi v2282 v2283
  v2284.toNat
def k0_dev58 (d0 : Dev nD) : Nat :=
  let c0_i32_2122 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_2121 : BitVec 32 := 8#32
  let v2294 : BitVec 32 := Scalar.muli v2 c8_i32_2121
  let v2295 : BitVec 32 := Scalar.addi c0_i32_2122 v2294
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_2123 : BitVec 32 := 4#32
  let v2296 : BitVec 32 := Scalar.muli v5 c4_i32_2123
  let v2297 : BitVec 32 := Scalar.addi v2295 v2296
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_5 : BitVec 32 := 1#32
  let v12 : BitVec 32 := Scalar.addi v8 c1_i32_5
  let c2_i32_6 : BitVec 32 := 2#32
  let c2_i32_2 : BitVec 32 := 2#32
  let v9 : BitVec 32 := Scalar.remsi v8 c2_i32_2
  let v13 : BitVec 32 := Scalar.muli c2_i32_6 v9
  let v14 : BitVec 32 := Scalar.subi v12 v13
  let c1_i32_2124 : BitVec 32 := 1#32
  let v2298 : BitVec 32 := Scalar.muli v14 c1_i32_2124
  let v2299 : BitVec 32 := Scalar.addi v2297 v2298
  v2299.toNat
def k0_dev59 (d0 : Dev nD) : Nat :=
  let c0_i32_2147 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_2146 : BitVec 32 := 8#32
  let v2324 : BitVec 32 := Scalar.muli v2 c8_i32_2146
  let v2325 : BitVec 32 := Scalar.addi c0_i32_2147 v2324
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_2148 : BitVec 32 := 4#32
  let v2326 : BitVec 32 := Scalar.muli v5 c4_i32_2148
  let v2327 : BitVec 32 := Scalar.addi v2325 v2326
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_5 : BitVec 32 := 1#32
  let v12 : BitVec 32 := Scalar.addi v8 c1_i32_5
  let c2_i32_6 : BitVec 32 := 2#32
  let c2_i32_2 : BitVec 32 := 2#32
  let v9 : BitVec 32 := Scalar.remsi v8 c2_i32_2
  let v13 : BitVec 32 := Scalar.muli c2_i32_6 v9
  let v14 : BitVec 32 := Scalar.subi v12 v13
  let c1_i32_2149 : BitVec 32 := 1#32
  let v2328 : BitVec 32 := Scalar.muli v14 c1_i32_2149
  let v2329 : BitVec 32 := Scalar.addi v2327 v2328
  v2329.toNat
def k0_dev60 (d0 : Dev nD) : Nat :=
  let c0_i32_2191 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_2190 : BitVec 32 := 8#32
  let v2372 : BitVec 32 := Scalar.muli v2 c8_i32_2190
  let v2373 : BitVec 32 := Scalar.addi c0_i32_2191 v2372
  let c1_i32_3 : BitVec 32 := 1#32
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let v10 : BitVec 32 := Scalar.subi c1_i32_3 v5
  let c4_i32_2192 : BitVec 32 := 4#32
  let v2374 : BitVec 32 := Scalar.muli v10 c4_i32_2192
  let v2375 : BitVec 32 := Scalar.addi v2373 v2374
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_2193 : BitVec 32 := 1#32
  let v2376 : BitVec 32 := Scalar.muli v8 c1_i32_2193
  let v2377 : BitVec 32 := Scalar.addi v2375 v2376
  v2377.toNat
def k0_dev61 (d0 : Dev nD) : Nat :=
  let c0_i32_2269 : BitVec 32 := 0#32
  let c1_i32_4 : BitVec 32 := 1#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let v11 : BitVec 32 := Scalar.subi c1_i32_4 v2
  let c8_i32_2268 : BitVec 32 := 8#32
  let v2450 : BitVec 32 := Scalar.muli v11 c8_i32_2268
  let v2451 : BitVec 32 := Scalar.addi c0_i32_2269 v2450
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_2270 : BitVec 32 := 4#32
  let v2452 : BitVec 32 := Scalar.muli v5 c4_i32_2270
  let v2453 : BitVec 32 := Scalar.addi v2451 v2452
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_2271 : BitVec 32 := 1#32
  let v2454 : BitVec 32 := Scalar.muli v8 c1_i32_2271
  let v2455 : BitVec 32 := Scalar.addi v2453 v2454
  v2455.toNat
def k0_dev62 (d0 : Dev nD) : Nat :=
  let c0_i32_2281 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_2280 : BitVec 32 := 8#32
  let v2465 : BitVec 32 := Scalar.muli v2 c8_i32_2280
  let v2466 : BitVec 32 := Scalar.addi c0_i32_2281 v2465
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_2282 : BitVec 32 := 4#32
  let v2467 : BitVec 32 := Scalar.muli v5 c4_i32_2282
  let v2468 : BitVec 32 := Scalar.addi v2466 v2467
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_5 : BitVec 32 := 1#32
  let v12 : BitVec 32 := Scalar.addi v8 c1_i32_5
  let c2_i32_6 : BitVec 32 := 2#32
  let c2_i32_2 : BitVec 32 := 2#32
  let v9 : BitVec 32 := Scalar.remsi v8 c2_i32_2
  let v13 : BitVec 32 := Scalar.muli c2_i32_6 v9
  let v14 : BitVec 32 := Scalar.subi v12 v13
  let c1_i32_2283 : BitVec 32 := 1#32
  let v2469 : BitVec 32 := Scalar.muli v14 c1_i32_2283
  let v2470 : BitVec 32 := Scalar.addi v2468 v2469
  v2470.toNat
def k0_dev63 (d0 : Dev nD) : Nat :=
  let c0_i32_2306 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_2305 : BitVec 32 := 8#32
  let v2495 : BitVec 32 := Scalar.muli v2 c8_i32_2305
  let v2496 : BitVec 32 := Scalar.addi c0_i32_2306 v2495
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_2307 : BitVec 32 := 4#32
  let v2497 : BitVec 32 := Scalar.muli v5 c4_i32_2307
  let v2498 : BitVec 32 := Scalar.addi v2496 v2497
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_5 : BitVec 32 := 1#32
  let v12 : BitVec 32 := Scalar.addi v8 c1_i32_5
  let c2_i32_6 : BitVec 32 := 2#32
  let c2_i32_2 : BitVec 32 := 2#32
  let v9 : BitVec 32 := Scalar.remsi v8 c2_i32_2
  let v13 : BitVec 32 := Scalar.muli c2_i32_6 v9
  let v14 : BitVec 32 := Scalar.subi v12 v13
  let c1_i32_2308 : BitVec 32 := 1#32
  let v2499 : BitVec 32 := Scalar.muli v14 c1_i32_2308
  let v2500 : BitVec 32 := Scalar.addi v2498 v2499
  v2500.toNat
def k0_dev64 (d0 : Dev nD) : Nat :=
  let c0_i32_2350 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_2349 : BitVec 32 := 8#32
  let v2543 : BitVec 32 := Scalar.muli v2 c8_i32_2349
  let v2544 : BitVec 32 := Scalar.addi c0_i32_2350 v2543
  let c1_i32_3 : BitVec 32 := 1#32
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let v10 : BitVec 32 := Scalar.subi c1_i32_3 v5
  let c4_i32_2351 : BitVec 32 := 4#32
  let v2545 : BitVec 32 := Scalar.muli v10 c4_i32_2351
  let v2546 : BitVec 32 := Scalar.addi v2544 v2545
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_2352 : BitVec 32 := 1#32
  let v2547 : BitVec 32 := Scalar.muli v8 c1_i32_2352
  let v2548 : BitVec 32 := Scalar.addi v2546 v2547
  v2548.toNat
def k0_dev65 (d0 : Dev nD) : Nat :=
  let c0_i32_2442 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_2441 : BitVec 32 := 8#32
  let v2636 : BitVec 32 := Scalar.muli v2 c8_i32_2441
  let v2637 : BitVec 32 := Scalar.addi c0_i32_2442 v2636
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_2443 : BitVec 32 := 4#32
  let v2638 : BitVec 32 := Scalar.muli v5 c4_i32_2443
  let v2639 : BitVec 32 := Scalar.addi v2637 v2638
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_5 : BitVec 32 := 1#32
  let v12 : BitVec 32 := Scalar.addi v8 c1_i32_5
  let c2_i32_6 : BitVec 32 := 2#32
  let c2_i32_2 : BitVec 32 := 2#32
  let v9 : BitVec 32 := Scalar.remsi v8 c2_i32_2
  let v13 : BitVec 32 := Scalar.muli c2_i32_6 v9
  let v14 : BitVec 32 := Scalar.subi v12 v13
  let c1_i32_2444 : BitVec 32 := 1#32
  let v2640 : BitVec 32 := Scalar.muli v14 c1_i32_2444
  let v2641 : BitVec 32 := Scalar.addi v2639 v2640
  v2641.toNat
def k0_dev66 (d0 : Dev nD) : Nat :=
  let c0_i32_2486 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_2485 : BitVec 32 := 8#32
  let v2684 : BitVec 32 := Scalar.muli v2 c8_i32_2485
  let v2685 : BitVec 32 := Scalar.addi c0_i32_2486 v2684
  let c1_i32_3 : BitVec 32 := 1#32
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let v10 : BitVec 32 := Scalar.subi c1_i32_3 v5
  let c4_i32_2487 : BitVec 32 := 4#32
  let v2686 : BitVec 32 := Scalar.muli v10 c4_i32_2487
  let v2687 : BitVec 32 := Scalar.addi v2685 v2686
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_2488 : BitVec 32 := 1#32
  let v2688 : BitVec 32 := Scalar.muli v8 c1_i32_2488
  let v2689 : BitVec 32 := Scalar.addi v2687 v2688
  v2689.toNat
def k0_dev67 (d0 : Dev nD) : Nat :=
  let c0_i32_2586 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_2585 : BitVec 32 := 8#32
  let v2783 : BitVec 32 := Scalar.muli v2 c8_i32_2585
  let v2784 : BitVec 32 := Scalar.addi c0_i32_2586 v2783
  let c1_i32_3 : BitVec 32 := 1#32
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let v10 : BitVec 32 := Scalar.subi c1_i32_3 v5
  let c4_i32_2587 : BitVec 32 := 4#32
  let v2785 : BitVec 32 := Scalar.muli v10 c4_i32_2587
  let v2786 : BitVec 32 := Scalar.addi v2784 v2785
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_2588 : BitVec 32 := 1#32
  let v2787 : BitVec 32 := Scalar.muli v8 c1_i32_2588
  let v2788 : BitVec 32 := Scalar.addi v2786 v2787
  v2788.toNat
-- ==== ReferenceIdeal.lean ====
abbrev S65536x1024 : Shape := ⟨2, ![65536, 1024]⟩
abbrev S2x32768x1024 : Shape := ⟨3, ![2, 32768, 1024]⟩
abbrev S_ : Shape := ⟨0, ![]⟩
abbrev S32768x1024 : Shape := ⟨2, ![32768, 1024]⟩

abbrev nBuf : Space → Nat
  | .hbm => 4
  | .vmem => 0
  | .smem => 0
  | _ => 0

abbrev bufTy : (tb : Table) → Fin (tcTables nBuf tb) → BufTy
  | .hbm, ⟨0, _⟩ => ⟨S65536x1024, .f32⟩
  | .hbm, ⟨1, _⟩ => ⟨S2x32768x1024, .f32⟩
  | .hbm, ⟨2, _⟩ => ⟨S_, .f32⟩
  | .hbm, ⟨3, _⟩ => ⟨S32768x1024, .f32⟩
  | _, _ => ⟨S65536x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_cst : Ref sig .tc := ⟨.hbm, 2, rfl⟩
abbrev main_v1 : Ref sig .tc := ⟨.hbm, 3, rfl⟩

abbrev nD : Nat := 1
abbrev τ : Topo := Topo.v7x

variable {F : FTy → Type} [FloatOps F]
-- ==== Proof.Ops.lean ====
/-
The kernel body as one straight line of operations.

`Act` names the operations of the body by what they do; `actProg` is the operation each name stands for, on the
device that runs it; `acts` is the order in which the body runs them. `body_eq` is the whole body as that line.
-/
module

public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points

@[expose] public section

noncomputable section

namespace Cert.Allreduce

open Cert.KernelIdeal Cert.KernelIdeal.Gen
open Idealize.ShloMosaic Idealize.ShloMosaic.TcCoe
open Idealize.SL Idealize.SL.Sem

variable {F : FTy → Type} [FloatOps F]

/-! ## Places -/

/-- The neighbours a device talks to: `1` across the axis y, `2` across x, `3` the partner along z; anything else
    is the device itself. -/
def peer : ℕ → Dev nD → Dev nD
  | 1, c => ⟨k0_dev1 c, k0_dev1_lt c⟩
  | 2, c => ⟨k0_dev2 c, k0_dev2_lt c⟩
  | 3, c => ⟨k0_dev3 c, k0_dev3_lt c⟩
  | _, c => c

/-- A row block's index, kept below sixteen. -/
abbrev row (k : ℕ) : Fin 16 := ⟨k % 16, Nat.mod_lt _ (by decide)⟩

/-- The first row of block `k` of a quarter of the array: the device's own quarter (`0`), the one its neighbour
    across x computes (`1`), the one its partner along z computes (`2`), the remaining one (`3`). -/
def rowOff : ℕ → Dev nD → ℕ → Fin 2 → ℕ
  | 0, c, k => k0_off1 c (BitVec.ofNat 32 (512 * (row k).val))
  | 1, c, k => k0_off2 c (BitVec.ofNat 32 (512 * (row k).val))
  | 2, c, k => k0_off3 c (BitVec.ofNat 32 (512 * (row k).val))
  | _, c, k => k0_off4 c (BitVec.ofNat 32 (512 * (row k).val))

theorem rowOff_inb : ∀ (w : ℕ) (c : Dev nD) (k : ℕ) (a : Fin 2), rowOff w c k a + S512x1024.size a ≤ S32768x1024.size a
  | 0, c, k => k0_off1_inb c (row k)
  | 1, c, k => k0_off2_inb c (row k)
  | 2, c, k => k0_off3_inb c (row k)
  | _ + 3, c, k => k0_off4_inb c (row k)

/-- The 512 rows of block `k` of a quarter, in the input, -/
abbrev xRows (w : ℕ) (c : Dev nD) (k : ℕ) : Memref sig .tc .hbm S512x1024 .f32 :=
  (Memref.whole main_arg0).slice (Rect.unit (s := S32768x1024) (rowOff w c k) S512x1024.size (rowOff_inb w c k)) (fun _ => rfl)

/-- and in the result. -/
abbrev oRows (w : ℕ) (c : Dev nD) (k : ℕ) : Memref sig .tc .hbm S512x1024 .f32 :=
  (Memref.whole main_v1).slice (Rect.unit (s := S32768x1024) (rowOff w c k) S512x1024.size (rowOff_inb w c k)) (fun _ => rfl)

theorem inb6 (j : ℕ) : ∀ a, (![j % 6, 0, 0] : Fin 3 → ℕ) a + S1x512x1024.size a ≤ S6x512x1024.size a := by
  have h : j % 6 < 6 := Nat.mod_lt _ (by decide)
  intro a
  fin_cases a
  · show j % 6 + 1 ≤ 6; omega
  · show 0 + 512 ≤ 512; omega
  · show 0 + 1024 ≤ 1024; omega

theorem inb4 (j : ℕ) : ∀ a, (![j % 4, 0, 0] : Fin 3 → ℕ) a + S1x512x1024.size a ≤ S4x512x1024.size a := by
  have h : j % 4 < 4 := Nat.mod_lt _ (by decide)
  intro a
  fin_cases a
  · show j % 4 + 1 ≤ 4; omega
  · show 0 + 512 ≤ 512; omega
  · show 0 + 1024 ≤ 1024; omega

/-- Slot `j % 6` of the landing buffer, as a rectangle, -/
abbrev rect6 (j : ℕ) : Rect S6x512x1024 := Rect.unit (s := S6x512x1024) ![j % 6, 0, 0] S1x512x1024.size (inb6 j)
/-- and slot `j % 4` of the local buffer. -/
abbrev rect4 (j : ℕ) : Rect S4x512x1024 := Rect.unit (s := S4x512x1024) ![j % 4, 0, 0] S1x512x1024.size (inb4 j)

/-- Slot `j % 6` of the landing buffer, as a transfer names it, -/
abbrev slotL (j : ℕ) : Memref sig .tc .vmem S512x1024 .f32 :=
  ((Memref.whole cc0_scratch0).slice (rect6 j) (fun _ => rfl)).squeeze S512x1024 squeezes_S1x512x1024_S512x1024
/-- and slot `j % 4` of the local buffer. -/
abbrev slotX (j : ℕ) : Memref sig .tc .vmem S512x1024 .f32 :=
  ((Memref.whole cc0_scratch1).slice (rect4 j) (fun _ => rfl)).squeeze S512x1024 squeezes_S1x512x1024_S512x1024

/-! ## Semaphores -/

/-- The families of transfer semaphores. -/
inductive Fam
  | yS | yR | ld | oc | sxS | szS | rxS | rzS | xin | zin | xr | zr
deriving DecidableEq

/-- Where a family starts in the pool of transfer semaphores, -/
def Fam.base : Fam → ℕ
  | .yS => 0 | .yR => 4 | .ld => 10 | .oc => 14 | .sxS => 18 | .szS => 22
  | .rxS => 26 | .rzS => 32 | .xin => 37 | .zin => 53 | .xr => 69 | .zr => 74

/-- and how many it has. -/
def Fam.size : Fam → ℕ
  | .yS => 4 | .yR => 6 | .ld => 4 | .oc => 4 | .sxS => 4 | .szS => 4
  | .rxS => 6 | .rzS => 5 | .xin => 16 | .zin => 16 | .xr => 5 | .zr => 6

/-- The `j`-th semaphore of a family. -/
def dsem (f : Fam) (j : ℕ) : DmaSem sig := ⟨(f.base + j) % 80, Nat.mod_lt _ (by decide)⟩

/-- The runtime's barrier semaphore. -/
abbrev barS : Sem sig := sig.barrier 0 rfl

/-! ## Operations -/

/-- The quarter and the block in it that chunk `k` of the exchange across y reads: the sixteen blocks of the own
    quarter, then the first five of the remaining one. -/
def yQ (k : ℕ) : ℕ := if k < 16 then 0 else 3
/-- See `yQ`. -/
def yK (k : ℕ) : ℕ := if k < 16 then k else k - 16

/-- The operations of the body. -/
inductive Act
  | sig (p : ℕ) | bar
  | stY (k : ℕ) | wsY (k : ℕ) | wrY (k : ℕ)
  | stL (k : ℕ) | wtL (k : ℕ)
  | add (k : ℕ)
  | stO (k : ℕ) | wtO (k : ℕ)
  | stX (k : ℕ) | wsX (k : ℕ) | wrX (k : ℕ)
  | stZ (k : ℕ) | wsZ (k : ℕ) | wrZ (k : ℕ)
  | stXZ (t : ℕ) | wsXZ (t : ℕ) | wrXZ (t : ℕ)
  | stZX (t : ℕ) | wsZX (t : ℕ) | wrZX (t : ℕ)
deriving DecidableEq

/-- A program of the kernel's effects. -/
abbrev KProg (F : FTy → Type) [FloatOps F] : Type 1 := Prog (TpuEff nD τ sig (Elt F) Λ₀ .tc) PUnit

/-- The sum of two slots: what `add` stores. -/
def sumPay (v w : Vec F S1x512x1024 .f32) : FVec F S1x512x1024 .f32 :=
  shapeCast S1x512x1024 (addf (shapeCast S512x1024 v shapeCasts_S1x512x1024_S512x1024)
    (shapeCast S512x1024 w shapeCasts_S1x512x1024_S512x1024)) shapeCasts_S512x1024_S1x512x1024

/-- The operation an `Act` stands for on device `c`. -/
def actProg (c : Dev nD) : Act → KProg F
  | .sig p => semSignalWord (peer p c) barS 1#32
  | .bar => semWaitWord barS 3#32
  | .stY k => Prog.lift (.enqueueDma (xRows (yQ k) c (yK k)) (.remote (Dev.tc (peer 1 c)) (slotL k) (.dma (dsem .yS (k % 4)))) (.dma (dsem .yR (k % 6)))
      (View.wordExact_bits rfl) ((View.wordExact_bits rfl).reshape _ _) ⟨⟨rfl, Or.inl rfl⟩, trivial⟩)
  | .wsY k => Prog.lift (.waitDma2 (dsem .yS (k % 4)) (slotL k) (xRows (yQ k) c (yK k)) ((View.wordExact_bits rfl).reshape _ _) (View.wordExact_bits rfl))
  | .wrY k => Prog.lift (.waitDma2 (dsem .yR (k % 6)) (xRows (yQ k) c (yK k)) (slotL k) (View.wordExact_bits rfl) ((View.wordExact_bits rfl).reshape _ _))
  | .stL k => Prog.lift (.enqueueDma (xRows (yQ k) c (yK k)) (.here (slotX k)) (.dma (dsem .ld (k % 4)))
      (View.wordExact_bits rfl) ((View.wordExact_bits rfl).reshape _ _) ⟨Or.inl rfl, trivial⟩)
  | .wtL k => Prog.lift (.waitDma2 (dsem .ld (k % 4)) (xRows (yQ k) c (yK k)) (slotX k) (View.wordExact_bits rfl) ((View.wordExact_bits rfl).reshape _ _))
  | .add k => (Prog.lift (.load (Memref.whole cc0_scratch1) (rect4 k).toLoadRect (View.loadsAt_vmem h_S1x512x1024))).bind fun v =>
      (Prog.lift (.load (Memref.whole cc0_scratch0) (rect6 k).toLoadRect (View.loadsAt_vmem h_S1x512x1024))).bind fun w =>
      (Prog.lift (.load (Memref.whole cc0_scratch1) (rect4 k).toLoadRect (View.loadsAt_vmem h_S1x512x1024))).bind fun _ =>
      Prog.lift (.store (Memref.whole cc0_scratch1) (rect4 k) (sumPay v w) Finset.univ (View.stores_vmem_bits_univ h_S1x512x1024 rfl) (.inl rfl))
  | .stO k => Prog.lift (.enqueueDma (slotX k) (.here (oRows (yQ k) c (yK k))) (.dma (dsem .oc (k % 4)))
      ((View.wordExact_bits rfl).reshape _ _) (View.wordExact_bits rfl) ⟨Or.inl rfl, trivial⟩)
  | .wtO k => Prog.lift (.waitDma2 (dsem .oc (k % 4)) (slotX k) (oRows (yQ k) c (yK k)) ((View.wordExact_bits rfl).reshape _ _) (View.wordExact_bits rfl))
  | .stX k => Prog.lift (.enqueueDma (slotX k) (.remote (Dev.tc (peer 2 c)) (oRows 0 c k) (.dma (dsem .sxS (k % 4)))) (.dma (dsem .xin k))
      ((View.wordExact_bits rfl).reshape _ _) (View.wordExact_bits rfl) ⟨⟨rfl, Or.inl rfl⟩, trivial⟩)
  | .wsX k => Prog.lift (.waitDma2 (dsem .sxS (k % 4)) (oRows 0 c k) (slotX k) (View.wordExact_bits rfl) ((View.wordExact_bits rfl).reshape _ _))
  | .wrX k => Prog.lift (.waitDma2 (dsem .xin k) (slotX 0) (oRows 1 c k) ((View.wordExact_bits rfl).reshape _ _) (View.wordExact_bits rfl))
  | .stZ k => Prog.lift (.enqueueDma (slotX k) (.remote (Dev.tc (peer 3 c)) (oRows 0 c k) (.dma (dsem .szS (k % 4)))) (.dma (dsem .zin k))
      ((View.wordExact_bits rfl).reshape _ _) (View.wordExact_bits rfl) ⟨⟨rfl, Or.inl rfl⟩, trivial⟩)
  | .wsZ k => Prog.lift (.waitDma2 (dsem .szS (k % 4)) (oRows 0 c k) (slotX k) (View.wordExact_bits rfl) ((View.wordExact_bits rfl).reshape _ _))
  | .wrZ k => Prog.lift (.waitDma2 (dsem .zin k) (slotX 0) (oRows 2 c k) ((View.wordExact_bits rfl).reshape _ _) (View.wordExact_bits rfl))
  | .stXZ t => Prog.lift (.enqueueDma (oRows 1 c t) (.remote (Dev.tc (peer 3 c)) (oRows 1 c t) (.dma (dsem .rxS (t - 10)))) (.dma (dsem .zr (t - 10)))
      (View.wordExact_bits rfl) (View.wordExact_bits rfl) ⟨⟨rfl, Or.inl rfl⟩, trivial⟩)
  | .wsXZ t => Prog.lift (.waitDma2 (dsem .rxS (t - 10)) (oRows 1 c t) (oRows 1 c t) (View.wordExact_bits rfl) (View.wordExact_bits rfl))
  | .wrXZ t => Prog.lift (.waitDma2 (dsem .zr (t - 10)) (oRows 3 c t) (oRows 3 c t) (View.wordExact_bits rfl) (View.wordExact_bits rfl))
  | .stZX t => Prog.lift (.enqueueDma (oRows 2 c t) (.remote (Dev.tc (peer 2 c)) (oRows 2 c t) (.dma (dsem .rzS (t - 5)))) (.dma (dsem .xr (t - 5)))
      (View.wordExact_bits rfl) (View.wordExact_bits rfl) ⟨⟨rfl, Or.inl rfl⟩, trivial⟩)
  | .wsZX t => Prog.lift (.waitDma2 (dsem .rzS (t - 5)) (oRows 2 c t) (oRows 2 c t) (View.wordExact_bits rfl) (View.wordExact_bits rfl))
  | .wrZX t => Prog.lift (.waitDma2 (dsem .xr (t - 5)) (oRows 3 c t) (oRows 3 c t) (View.wordExact_bits rfl) (View.wordExact_bits rfl))

/-- The operations `l` in order, then `e`. -/
def progTo (c : Dev nD) (e : KProg F) : List Act → KProg F
  | [] => e
  | a :: l => (actProg c a).bind fun _ => progTo c e l

/-- The operations `l` in order. -/
abbrev progOf (c : Dev nD) (l : List Act) : KProg F := progTo c (.ret ⟨⟩) l

/-! ## The order -/

/-- Turn `r` of the exchange: free the slots four chunks back, start chunk `r`'s transfer across y and its load; -/
def turnStart (r : ℕ) : List Act :=
  if r < 21 then
    (if 4 ≤ r then [.wsY (r - 4)] else []) ++ [.stY r] ++
    (if 4 ≤ r ∧ r - 4 < 16 then [.wsX (r - 4), .wsZ (r - 4)] else []) ++
    (if 4 ≤ r then [.wtO (r - 4)] else []) ++ [.stL r]
  else []

/-- add chunk `s` once both halves are there, copy the sum out and hand it to both neighbours; -/
def turnAdd (s : ℕ) : List Act :=
  if s < 21 then [.wtL s, .wrY s, .add s, .stO s] ++ (if s < 16 then [.stX s, .stZ s] else []) else []

/-- take in the neighbours' block `t`, passing it on where it is this device's to pass on; -/
def turnIn (t : ℕ) : List Act :=
  if t < 16 then
    [.wrX t] ++ (if 10 ≤ t then [.stXZ t] else []) ++ [.wrZ t] ++ (if 5 ≤ t ∧ t < 10 then [.stZX t] else [])
  else []

/-- take in block `u` of the remaining quarter. -/
def turnRest (u : ℕ) : List Act :=
  (if 5 ≤ u ∧ u < 10 then [.wrZX u] else []) ++ (if 10 ≤ u ∧ u < 16 then [.wrXZ u] else [])

/-- One turn. -/
def turn (r : ℕ) : List Act :=
  turnStart r ++ (if 2 ≤ r then turnAdd (r - 2) else []) ++ (if 3 ≤ r then turnIn (r - 3) else []) ++
    (if 5 ≤ r then turnRest (r - 5) else [])

/-- The waits after the last turn. -/
def tailActs : List Act :=
  [.wsY 17, .wsY 18, .wsY 19, .wsY 20, .wtO 17, .wtO 18, .wtO 19, .wtO 20,
   .wsXZ 10, .wsXZ 11, .wsXZ 12, .wsXZ 13, .wsXZ 14, .wsXZ 15,
   .wsZX 5, .wsZX 6, .wsZX 7, .wsZX 8, .wsZX 9]

/-- All operations of the body, in order. -/
def acts : List Act :=
  [.sig 1, .sig 2, .sig 3, .bar] ++ (List.range 29).flatMap turn ++ tailActs

set_option maxRecDepth 65536 in
/-- The body reads which device it runs on and then runs `acts`. -/
theorem body_eq (t : Fin cfg0.N) :
    bodyAt0 (F := F) t = .op .deviceId fun c : Dev nD => progOf c acts := rfl

end Cert.Allreduce
-- ==== Proof.Sched.lean ====
/-
What the devices agree on: which semaphore stands for what, in which round, and what passes with it.

`Atom` names the pieces of memory (and the marks) that move between devices; `atom` is what holding one means on a
device. `pay` lists what the completion of each round of each semaphore hands over. `Rd` is the schedule made of it.
-/
module

public import proofs.«01_k».proof.Proof.Ops
public import proofs.«01_k».proof.Proof.Gen.KernelIdeal.Frame
public import Idealize.ShloMosaic.Lib.Pipeline.TalkSites
public import Idealize.ShloMosaic.Lib.Tactic

@[expose] public section

noncomputable section

namespace Cert.Allreduce

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

/-! ## The resources -/

/-- The rounds of the kernel's semaphores, duties named by numbers. -/
abbrev UB : Type := URounds (GSem nD τ sig) ℕ
/-- Beside the launch library's own. -/
abbrev UU : Type := UR sig nD τ × UB

local notation "𝕄" => MT nD τ sig ℕ (Elt F) ℕ UU ℕ

abbrev EP : Emb (UR sig nD τ) (MT nD τ sig ℕ (Elt F) ℕ UU ℕ) := embL
abbrev ER : Emb UB (MT nD τ sig ℕ (Elt F) ℕ UU ℕ) := embR

/-! ## Cells -/

/-- A device's semaphores: the barrier, and the transfer semaphores by family and place. -/
inductive Cell
  | bar
  | dma (f : Fam) (j : ℕ)
deriving DecidableEq

/-- The semaphore a cell is. -/
def csem : Cell → SemLoc sig
  | .bar => .reg barS
  | .dma f j => .dma (dsem f j)

/-- The cell of device `c`. -/
abbrev kc (c : Dev nD) (x : Cell) : GSem nD τ sig := ((c : Thread nD τ), csem x)

/-- The family and place of the `n`-th transfer semaphore. -/
def famOf (n : ℕ) : Cell :=
  if n < 4 then .dma .yS n else if n < 10 then .dma .yR (n - 4) else if n < 14 then .dma .ld (n - 10)
  else if n < 18 then .dma .oc (n - 14) else if n < 22 then .dma .sxS (n - 18) else if n < 26 then .dma .szS (n - 22)
  else if n < 32 then .dma .rxS (n - 26) else if n < 37 then .dma .rzS (n - 32) else if n < 53 then .dma .xin (n - 37)
  else if n < 69 then .dma .zin (n - 53) else if n < 74 then .dma .xr (n - 69) else .dma .zr (n - 74)

/-- The cell a semaphore is. -/
def decode : SemLoc sig → Cell
  | .reg _ => .bar
  | .dma n => famOf n.val

/-- The cells there are. -/
def okC : Cell → Bool
  | .bar => true
  | .dma f j => decide (j < f.size)

theorem famOf_base : ∀ (f : Fam) (j : ℕ), j < f.size → famOf ((f.base + j) % 80) = .dma f j := by
  intro f; cases f <;> exact (by decide +kernel)

theorem decode_csem {x : Cell} (h : okC x = true) : decode (csem x) = x := by
  cases x with
  | bar => rfl
  | dma f j => exact famOf_base f j (of_decide_eq_true h)

/-! ## Pieces -/

/-- What can be held, or handed on, on a device. -/
inductive Atom
  /-- share `s` of the rows of block `k` of quarter `w` of the input -/
  | xsh (s w k : ℕ)
  /-- slot `j` of the landing buffer, whatever it holds -/
  | slAny (j : ℕ)
  /-- the slot of chunk `k`, holding the neighbour's rows -/
  | slIn (k : ℕ)
  /-- slot `j` of the local buffer, whatever it holds -/
  | xsAny (j : ℕ)
  /-- the local slot of chunk `k`, holding the own rows -/
  | xsX (k : ℕ)
  /-- share `i` of the local slot of chunk `k`, holding the sum -/
  | xsS (i k : ℕ)
  /-- the rows of block `k` of quarter `w` of the result, whatever they hold -/
  | oAny (w k : ℕ)
  /-- the same rows, holding the result -/
  | oS (w k : ℕ)
  /-- that round `r` of a cell has begun -/
  | rch (x : Cell) (r : ℕ)
deriving DecidableEq

/-- The two shares of a block of the input. -/
def sh2 : ℕ → PosShare TreeShare
  | 0 => fullShare.left
  | _ => fullShare.right

/-- The three shares of a slot that three transfers read. -/
def sh3 : ℕ → PosShare TreeShare
  | 0 => fullShare.left
  | 1 => fullShare.right.left
  | _ => fullShare.right.right

variable (m : (ℓ : Loc nD τ sig) → Buf (Elt F) ℓ)

/-- What a block of 512 rows holds. -/
abbrev Blk (F : FTy → Type) [FloatOps F] : Type := S512x1024.Idx → Elt F .f32

/-- Block `k` of quarter `w` of device `c`'s input. -/
def xBlk (w k : ℕ) (c : Dev nD) : Blk F := (xRows w c k).view.read (Elt F) (m ((c : Thread nD τ).loc main_arg0))

/-- The sum of the device's block and that of its neighbour across y. -/
def sumBlk (w k : ℕ) (c : Dev nD) : FVec F S512x1024 .f32 := addf (xBlk m w k c) (xBlk m w k (peer 1 c))

/-- Block `k` of quarter `w` of the result on device `c`: the sum as the device that computed it formed it. -/
def oBlk : ℕ → ℕ → Dev nD → Blk F
  | 0, k, c => sumBlk m 0 k c
  | 1, k, c => sumBlk m 0 k (peer 2 c)
  | 2, k, c => sumBlk m 0 k (peer 3 c)
  | _, k, c => if k < 5 then sumBlk m 3 k c else sumBlk m 0 k (peer 3 (peer 2 c))

/-- A block of rows or a slot, at some contents. -/
def someAt (c : Dev nD) {sp : Space} (r : Memref sig .tc sp S512x1024 .f32) : sProp 𝕄 :=
  iprop(∃ v : Blk F, owns (c : Thread nD τ) r fullShare v)

instance someAt_storable (c : Dev nD) {sp : Space} (r : Memref sig .tc sp S512x1024 .f32) :
    BI.Storable (upEmb : UEmb _ 𝕄) (someAt (F := F) c r) := by unfold someAt; infer_instance

/-- Holding an atom on device `c`. -/
def atom (c : Dev nD) : Atom → sProp 𝕄
  | .xsh s w k => owns (c : Thread nD τ) (xRows w c k) (sh2 s) (xBlk m w k c)
  | .slAny j => someAt c (slotL j)
  | .slIn k => owns (c : Thread nD τ) (slotL k) fullShare (xBlk m (yQ k) (yK k) (peer 1 c))
  | .xsAny j => someAt c (slotX j)
  | .xsX k => owns (c : Thread nD τ) (slotX k) fullShare (xBlk m (yQ k) (yK k) c)
  | .xsS i k => owns (c : Thread nD τ) (slotX k) (sh3 i) (sumBlk m (yQ k) (yK k) c)
  | .oAny w k => someAt c (oRows w c k)
  | .oS w k => owns (c : Thread nD τ) (oRows w c k) fullShare (oBlk m w k c)
  | .rch x r => reached ER (kc c x) r

instance atom_storable (c : Dev nD) (a : Atom) : BI.Storable (upEmb : UEmb _ 𝕄) (atom m c a) := by
  cases a <;> dsimp only [atom] <;> infer_instance

/-- Holding a list of atoms, each on a neighbour of device `c`. -/
def atomsL (c : Dev nD) : List (ℕ × Atom) → sProp 𝕄
  | [] => iprop(emp)
  | a :: l => iprop(atom m (peer a.1 c) a.2 ∗ atomsL c l)

instance atomsL_storable (c : Dev nD) (l : List (ℕ × Atom)) : BI.Storable (upEmb : UEmb _ 𝕄) (atomsL m c l) := by
  induction l with
  | nil => unfold atomsL; infer_instance
  | cons a l ih => unfold atomsL; infer_instance

/-! ## The schedule -/

/-- Whether chunk `k`'s arrival comes with the neighbour's slot for the chunk three on: the neighbour has used it. -/
def handsOn (k : ℕ) : Bool := decide (3 ≤ k ∧ k < 18)

/-- What device `q`'s signal on the barrier of its neighbour `p` hands that neighbour: where the neighbour's transfers
    go. -/
def barPay : ℕ → List Atom
  | 1 => (List.range 6).map .slAny
  | 2 => (List.range 16).map (.oAny 1) ++ (List.range' 5 5).map (.oAny 3)
  | 3 => (List.range 16).map (.oAny 2) ++ (List.range' 10 6).map (.oAny 3)
  | _ => []

/-- What the end of round `r` of a cell hands its device, duty by duty: each atom on the neighbour named. -/
def pay : Cell → ℕ → ℕ → List (ℕ × Atom)
  | .bar, _, d => (barPay d).map (Prod.mk d)
  | .dma .yS j, r, _ => [(0, .xsh 0 (yQ (4 * r + j)) (yK (4 * r + j)))]
  | .dma .yR j, r, _ => (0, .slIn (6 * r + j)) ::
      (if handsOn (6 * r + j) then
        [(1, .slAny ((6 * r + j + 3) % 6)), (1, .rch (.dma .yR ((6 * r + j + 3) % 6)) ((6 * r + j + 3) / 6))] else [])
  | .dma .ld j, r, _ => [(0, .xsX (4 * r + j)), (0, .xsh 1 (yQ (4 * r + j)) (yK (4 * r + j)))]
  | .dma .oc j, r, _ => [(0, .oS (yQ (4 * r + j)) (yK (4 * r + j))), (0, .xsS 0 (4 * r + j))]
  | .dma .sxS j, r, _ => [(0, .xsS 1 (4 * r + j))]
  | .dma .szS j, r, _ => [(0, .xsS 2 (4 * r + j))]
  | .dma .rxS j, _, _ => [(0, .oS 1 (j + 10))]
  | .dma .rzS j, _, _ => [(0, .oS 2 (j + 5))]
  | .dma .xin j, _, _ => [(0, .oS 1 j)]
  | .dma .zin j, _, _ => [(0, .oS 2 j)]
  | .dma .xr j, _, _ => [(0, .oS 3 (j + 5))]
  | .dma .zr j, _, _ => [(0, .oS 3 (j + 10))]

/-- How many rounds a cell runs. -/
def nRounds : Cell → ℕ
  | .bar => 1
  | .dma .yS j | .dma .ld j | .dma .oc j => (24 - j) / 4
  | .dma .yR j => (26 - j) / 6
  | .dma .sxS _ | .dma .szS _ => 4
  | .dma _ _ => 1

/-- A cell's duties in a round: the three neighbours' signals on the barrier, one transfer elsewhere. -/
def dutiesOf (x : Cell) (r : ℕ) : Finset ℕ :=
  if r < nRounds x then (if x = .bar then {1, 2, 3} else {0}) else ∅

/-- The credit of one transfer. -/
def credN : ℕ := (slotL 0).view.dmaCredit
theorem credN_pos : 0 < credN := View.dmaCredit_pos _ (by decide)

/-- The units a duty pays. -/
def amt (x : Cell) : ℕ := if x = .bar then 1 else credN
theorem amt_pos (x : Cell) : 0 < amt x := by
  unfold amt; split
  · exact Nat.one_pos
  · exact credN_pos

/-- The schedule. -/
def Rd : Rounds.Schedule (GSem nD τ sig) ℕ 𝕄 where
  duties g r := if g.1.2 = .tc then dutiesOf (decode g.2) r else ∅
  unitless _ := False
  amount g _ _ := amt (decode g.2)
  payload g r d := atomsL m g.1.1 (pay (decode g.2) r d)
  amount_pos g _ _ _ := amt_pos _

instance Rd_storable (g : GSem nD τ sig) (r d : ℕ) : BI.Storable (upEmb : UEmb _ 𝕄) ((Rd m).payload g r d) := by
  show BI.Storable upEmb (atomsL m g.1.1 (pay (decode g.2) r d)); infer_instance

section
variable (c : Dev nD) {x : Cell} (hx : okC x = true)
include hx

theorem duties_kc (r : ℕ) : (Rd m).duties (kc c x) r = dutiesOf x r := by
  show (if (c : Thread nD τ).2 = .tc then dutiesOf (decode (csem x)) r else ∅) = _
  rw [decode_csem hx, if_pos rfl]

theorem amount_kc (r d : ℕ) : (Rd m).amount (kc c x) r d = amt x := by
  show amt (decode (csem x)) = _
  rw [decode_csem hx]

theorem payload_kc (r d : ℕ) : (Rd m).payload (kc c x) r d = atomsL m c (pay x r d) := by
  show atomsL m c (pay (decode (csem x)) r d) = _
  rw [decode_csem hx]

theorem duties_after (R : ℕ) (hR : nRounds x ≤ R) : ∀ r, R ≤ r → (Rd m).duties (kc c x) r = ∅ := fun r hr => by
  rw [duties_kc m c hx]; unfold dutiesOf; rw [if_neg (by omega)]

/-- All that a wait on the cell takes. -/
def credAmt (x : Cell) : ℕ := if x = .bar then 3 else credN

theorem expect_kc (r : ℕ) (hr : r < nRounds x) : (Rd m).expect (kc c x) r = credAmt x := by
  unfold Schedule.expect Schedule.amountOf
  rw [duties_kc m c hx, Finset.sum_congr rfl fun d _ => amount_kc m c hx r d, Finset.sum_const, smul_eq_mul]
  unfold dutiesOf amt credAmt
  rw [if_pos hr]
  by_cases h : x = .bar
  · rw [if_pos h, if_pos h, if_pos h]; rfl
  · rw [if_neg h, if_neg h, if_neg h]; exact Nat.one_mul _

end

/-- A transfer's cell in a round it runs: its one duty, -/
theorem mem_duties (c : Dev nD) {f : Fam} {j r : ℕ} (hx : okC (.dma f j) = true) (hr : r < nRounds (.dma f j)) :
    0 ∈ (Rd m).duties (kc c (.dma f j)) r := by
  rw [duties_kc m c hx]; unfold dutiesOf; rw [if_pos hr, if_neg (fun h => by cases h)]; exact Finset.mem_singleton_self _

/-- and what its end hands over. -/
theorem rest_dma (c : Dev nD) {f : Fam} {j r : ℕ} (hx : okC (.dma f j) = true) (hr : r < nRounds (.dma f j)) :
    bigSep ((Rd m).duties (kc c (.dma f j)) r \ ∅) (fun d => (Rd m).payload (kc c (.dma f j)) r d)
      = atomsL m c (pay (.dma f j) r 0) := by
  rw [Finset.sdiff_empty, duties_kc m c hx]; unfold dutiesOf
  rw [if_pos hr, if_neg (fun h => by cases h), bigSep_singleton, payload_kc m c hx]

theorem mem_duties_bar (c : Dev nD) {p : ℕ} (hp : p ∈ ({1, 2, 3} : Finset ℕ)) : p ∈ (Rd m).duties (kc c .bar) 0 := by
  rw [duties_kc m c rfl]; exact hp

theorem rest_bar (c : Dev nD) :
    bigSep ((Rd m).duties (kc c .bar) 0 \ ∅) (fun d => (Rd m).payload (kc c .bar) 0 d)
      = iprop(atomsL m c (pay .bar 0 1) ∗ atomsL m c (pay .bar 0 2) ∗ atomsL m c (pay .bar 0 3)) := by
  rw [Finset.sdiff_empty, duties_kc m c rfl, show dutiesOf .bar 0 = {1, 2, 3} from rfl,
    bigSep_eq_bigSepL_of_eq [1, 2, 3] (by decide) (by decide)]
  rfl

end Cert.Allreduce

end
-- ==== Proof.Geom.lean ====
/-
Where things lie: the neighbours of a device and theirs, the quarters each reads and writes, and what the slots hold
after a transfer or an addition.
-/
module

public import proofs.«01_k».proof.Proof.Sched
public import Idealize.ShloMosaic.Lib.Pipeline.Value

@[expose] public section

noncomputable section

namespace Cert.Allreduce

open Cert.KernelIdeal Cert.KernelIdeal.Gen
open Idealize.ShloMosaic Idealize.ShloMosaic.TcCoe
open Idealize.SL Idealize.SL.RA Idealize.SL.BI
open scoped Idealize.SL.BI Idealize.SL.RA
open PCS
open Idealize.SL.BI.BIBase Idealize.SL.BI.Laws Idealize.SL.ProofMode Idealize.SL.Sem

variable {F : FTy → Type} [FloatOps F]

local notation "𝕄" => MT nD τ sig ℕ (Elt F) ℕ UU ℕ

/-! ## Neighbours -/

theorem peer_zero (c : Dev nD) : peer 0 c = c := rfl

/-- Each neighbour's neighbour is the device itself, -/
theorem peer_peer : ∀ (p : ℕ) (c : Dev nD), peer p (peer p c) = c
  | 0, _ => rfl
  | 1, c => by revert c; decide +kernel
  | 2, c => by revert c; decide +kernel
  | 3, c => by revert c; decide +kernel
  | _ + 4, _ => rfl

/-- and the axes do not interfere. -/
theorem peer_comm23 : ∀ c : Dev nD, peer 3 (peer 2 c) = peer 2 (peer 3 c) := by decide +kernel

/-- Going to a neighbour, as a rearrangement of the devices. -/
def peerE (p : ℕ) : Dev nD ≃ Dev nD := ⟨peer p, peer p, peer_peer p, peer_peer p⟩

/-! ## Quarters -/

/-- The quarter a device reduces, -/
def ownQ (c : Dev nD) : ℕ := 2 * (c.val / 8) + (c.val % 4) % 2

/-- and the quarter `w` of its four. -/
def quarter : ℕ → Dev nD → ℕ
  | 0, c => ownQ c
  | 1, c => ownQ (peer 2 c)
  | 2, c => ownQ (peer 3 c)
  | _, c => ownQ (peer 3 (peer 2 c))

set_option maxHeartbeats 1600000 in
theorem rowOff_row : ∀ (w : Fin 4) (c : Dev nD) (k : Fin 16), rowOff w.val c k.val = ![8192 * quarter w.val c + 512 * k.val, 0] := by
  decide +kernel

theorem rowOff_mod (w : ℕ) (c : Dev nD) (k : ℕ) : rowOff w c k = rowOff w c (k % 16) := by
  have h : row k = row (k % 16) := Fin.ext (by show k % 16 = k % 16 % 16; omega)
  match w with
  | 0 => show k0_off1 c _ = k0_off1 c _; rw [h]
  | 1 => show k0_off2 c _ = k0_off2 c _; rw [h]
  | 2 => show k0_off3 c _ = k0_off3 c _; rw [h]
  | _ + 3 => show k0_off4 c _ = k0_off4 c _; rw [h]

/-- A block's first row. -/
theorem rowOff_eq (w : ℕ) (hw : w < 4) (c : Dev nD) (k : ℕ) : rowOff w c k = ![8192 * quarter w c + 512 * (k % 16), 0] := by
  rw [rowOff_mod]
  exact rowOff_row ⟨w, hw⟩ c ⟨k % 16, Nat.mod_lt _ (by decide)⟩

theorem quarter_y : ∀ (w : Fin 4) (c : Dev nD), quarter w.val (peer 1 c) = quarter w.val c := by decide +kernel
theorem quarter_own_x : ∀ c : Dev nD, quarter 0 c = quarter 1 (peer 2 c) := by decide +kernel
theorem quarter_own_z : ∀ c : Dev nD, quarter 0 c = quarter 2 (peer 3 c) := by decide +kernel
theorem quarter_x_z : ∀ c : Dev nD, quarter 1 c = quarter 3 (peer 3 c) := by decide +kernel
theorem quarter_z_x : ∀ c : Dev nD, quarter 2 c = quarter 3 (peer 2 c) := by decide +kernel

theorem oRows_congr {w w' : ℕ} {c c' : Dev nD} {k k' : ℕ} (h : rowOff w c k = rowOff w' c' k') : oRows w c k = oRows w' c' k' := by
  have : ∀ (o o' : Fin 2 → ℕ) (i : ∀ a, o a + S512x1024.size a ≤ S32768x1024.size a)
      (i' : ∀ a, o' a + S512x1024.size a ≤ S32768x1024.size a), o = o' →
      ((Memref.whole main_v1).slice (Rect.unit (s := S32768x1024) o S512x1024.size i) (fun _ => rfl) : Memref sig .tc .hbm S512x1024 .f32)
        = (Memref.whole main_v1).slice (Rect.unit (s := S32768x1024) o' S512x1024.size i') (fun _ => rfl) := by
    intro o o' i i' e; subst e; rfl
  exact this _ _ _ _ h

/-- The own rows are the x neighbour's rows `1`, -/
theorem oRows_own_x (c : Dev nD) (k : ℕ) : oRows 0 c k = oRows 1 (peer 2 c) k :=
  oRows_congr (by rw [rowOff_eq 0 (by decide), rowOff_eq 1 (by decide), quarter_own_x])
/-- and the z partner's rows `2`; -/
theorem oRows_own_z (c : Dev nD) (k : ℕ) : oRows 0 c k = oRows 2 (peer 3 c) k :=
  oRows_congr (by rw [rowOff_eq 0 (by decide), rowOff_eq 2 (by decide), quarter_own_z])
/-- what is passed on from x to z, and from z to x, are the receiver's rows `3`. -/
theorem oRows_x_z (c : Dev nD) (k : ℕ) : oRows 1 c k = oRows 3 (peer 3 c) k :=
  oRows_congr (by rw [rowOff_eq 1 (by decide), rowOff_eq 3 (by decide), quarter_x_z])
theorem oRows_z_x (c : Dev nD) (k : ℕ) : oRows 2 c k = oRows 3 (peer 2 c) k :=
  oRows_congr (by rw [rowOff_eq 2 (by decide), rowOff_eq 3 (by decide), quarter_z_x])

theorem slotL_congr {j j' : ℕ} (h : j % 6 = j' % 6) : slotL j = slotL j' := by
  have : ∀ (o o' : Fin 3 → ℕ) (i : ∀ a, o a + S1x512x1024.size a ≤ S6x512x1024.size a)
      (i' : ∀ a, o' a + S1x512x1024.size a ≤ S6x512x1024.size a), o = o' →
      (((Memref.whole cc0_scratch0).slice (Rect.unit (s := S6x512x1024) o S1x512x1024.size i) (fun _ => rfl)).squeeze S512x1024 squeezes_S1x512x1024_S512x1024 : Memref sig .tc .vmem S512x1024 .f32)
        = ((Memref.whole cc0_scratch0).slice (Rect.unit (s := S6x512x1024) o' S1x512x1024.size i') (fun _ => rfl)).squeeze S512x1024 squeezes_S1x512x1024_S512x1024 := by
    intro o o' i i' e; subst e; rfl
  exact this _ _ _ _ (by rw [h])

theorem slotX_congr {j j' : ℕ} (h : j % 4 = j' % 4) : slotX j = slotX j' := by
  have : ∀ (o o' : Fin 3 → ℕ) (i : ∀ a, o a + S1x512x1024.size a ≤ S4x512x1024.size a)
      (i' : ∀ a, o' a + S1x512x1024.size a ≤ S4x512x1024.size a), o = o' →
      (((Memref.whole cc0_scratch1).slice (Rect.unit (s := S4x512x1024) o S1x512x1024.size i) (fun _ => rfl)).squeeze S512x1024 squeezes_S1x512x1024_S512x1024 : Memref sig .tc .vmem S512x1024 .f32)
        = ((Memref.whole cc0_scratch1).slice (Rect.unit (s := S4x512x1024) o' S1x512x1024.size i') (fun _ => rfl)).squeeze S512x1024 squeezes_S1x512x1024_S512x1024 := by
    intro o o' i i' e; subst e; rfl
  exact this _ _ _ _ (by rw [h])

/-! ## Contents -/

/-- A transfer into a place leaves it holding what was sent. -/
theorem owns_written (c : Dev nD) {sp : Space} (r : Memref sig .tc sp S512x1024 .f32) (fd : Buf (Elt F) (r.view.loc (c : Thread nD τ)))
    (v : Blk F) :
    ((r.view.loc (c : Thread nD τ)) ↦[r.view.set]{fullShare} (r.view.write (Elt F) fd v Finset.univ))
      ⊢ (owns (c : Thread nD τ) r fullShare v : sProp 𝕄) := by
  have h := owns_intro (Ix := ℕ) (Name := ℕ) (U := UU) (Lvl := ℕ) (c : Thread nD τ) r fullShare (r.view.write (Elt F) fd v Finset.univ)
  rwa [View.read_write_univ] at h

/-- Two shares of a place, held at the same contents, are the two together; -/
theorem owns_join_share (c : Dev nD) {sp : Space} (r : Memref sig .tc sp S512x1024 .f32) {q q₁ q₂ : PosShare TreeShare}
    (hq : q ∈ q₁ ·? q₂) (v : Blk F) :
    iprop(owns (c : Thread nD τ) r q₁ v ∗ owns (c : Thread nD τ) r q₂ v) ⊢ (owns (c : Thread nD τ) r q v : sProp 𝕄) := by
  unfold owns
  iintro ⟨⟨%f, %hf, H1⟩, ⟨%g, %hg, H2⟩⟩
  iexists f
  isplitr; · ipureintro; exact hf
  have e : ((r.view.loc (c : Thread nD τ)) ↦[r.view.set]{q₂} g : sProp 𝕄) = (r.view.loc (c : Thread nD τ)) ↦[r.view.set]{q₂} f :=
    pointsTo_congr fun i hi => by
      rw [View.set, Finset.mem_map] at hi
      obtain ⟨x, -, rfl⟩ := hi
      have := congrFun (hf.trans hg.symm) x
      simp only [View.read] at this
      exact ((cast_inj _).mp this).symm
  ihave H2' := (Entails.of_eq e) $$ H2
  iapply (pointsTo_share hq).2
  isplitl [H1]; · iexact H1
  iexact H2'

/-- and what is held splits into the two. -/
theorem owns_split_share (c : Dev nD) {sp : Space} (r : Memref sig .tc sp S512x1024 .f32) {q q₁ q₂ : PosShare TreeShare}
    (hq : q ∈ q₁ ·? q₂) (v : Blk F) :
    (owns (c : Thread nD τ) r q v : sProp 𝕄) ⊢ iprop(owns (c : Thread nD τ) r q₁ v ∗ owns (c : Thread nD τ) r q₂ v) := by
  unfold owns
  iintro ⟨%f, %hf, H⟩
  ihave H' := (pointsTo_share hq).1 $$ H
  icases H' with ⟨H1, H2⟩
  isplitl [H1]
  · iexists f; isplitr; · ipureintro; exact hf
    iexact H1
  · iexists f; isplitr; · ipureintro; exact hf
    iexact H2

/-! ## The addition -/

/-- A slot's elements are those of its rectangle. -/
theorem slotX_set (k : ℕ) : (slotX k).view.set = ((Memref.whole cc0_scratch1).view.slice (rect4 k)).set := View.set_reshape _ _
theorem slotL_set (k : ℕ) : (slotL k).view.set = ((Memref.whole cc0_scratch0).view.slice (rect6 k)).set := View.set_reshape _ _

/-- Loading a slot's rectangle, taken flat, is reading the slot. -/
theorem load_slotX (k : ℕ) (f : (cc0_scratch1 : Ref sig .tc).ty.Contents (Elt F)) :
    shapeCast S512x1024 ((Memref.whole cc0_scratch1).view.readAt (Elt F) (rect4 k).toLoadRect f) shapeCasts_S1x512x1024_S512x1024
      = (slotX k).view.read (Elt F) f := rfl
theorem load_slotL (k : ℕ) (f : (cc0_scratch0 : Ref sig .tc).ty.Contents (Elt F)) :
    shapeCast S512x1024 ((Memref.whole cc0_scratch0).view.readAt (Elt F) (rect6 k).toLoadRect f) shapeCasts_S1x512x1024_S512x1024
      = (slotL k).view.read (Elt F) f := rfl

/-- After the addition the local slot holds the sum of the two slots. -/
theorem add_read (k : ℕ) (f : (cc0_scratch1 : Ref sig .tc).ty.Contents (Elt F)) (g : (cc0_scratch0 : Ref sig .tc).ty.Contents (Elt F)) :
    (slotX k).view.read (Elt F) (((Memref.whole cc0_scratch1).access (rect4 k)).write (Elt F) f
      (sumPay ((Memref.whole cc0_scratch1).view.readAt (Elt F) (rect4 k).toLoadRect f)
        ((Memref.whole cc0_scratch0).view.readAt (Elt F) (rect6 k).toLoadRect g)) Finset.univ)
      = (addf ((slotX k).view.read (Elt F) f) ((slotL k).view.read (Elt F) g) : FVec F S512x1024 .f32) := by
  show shapeCast S512x1024 (((Memref.whole cc0_scratch1).access (rect4 k)).read (Elt F) (((Memref.whole cc0_scratch1).access (rect4 k)).write (Elt F) f
      (sumPay ((Memref.whole cc0_scratch1).view.readAt (Elt F) (rect4 k).toLoadRect f)
        ((Memref.whole cc0_scratch0).view.readAt (Elt F) (rect6 k).toLoadRect g)) Finset.univ)) shapeCasts_S1x512x1024_S512x1024 = _
  rw [View.read_write_univ]
  unfold sumPay
  rw [load_slotX, load_slotL]
  exact shapeCast_shapeCast _ _ _

end Cert.Allreduce

end
-- ==== Proof.Steps.lean ====
/-
What a device holds and owes between two operations, and one rule for each kind of operation: a signal, the wait for
the three signals, a transfer to a neighbour, a transfer on the device, the wait for a transfer, an addition.
-/
module

public import proofs.«01_k».proof.Proof.Geom

@[expose] public section

noncomputable section

namespace Cert.Allreduce

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.SiteBlocks (L lv mem_L' mayWait_of)
open Idealize.ShloMosaic.TalkSites (tallyL tallyL_pos)

variable {F : FTy → Type} [FloatOps F]

local notation "𝕄" => MT nD τ sig ℕ (Elt F) ℕ UU ℕ

abbrev 𝒱₀ : Variants := Variants.none

variable (m : (ℓ : Loc nD τ sig) → Buf (Elt F) ℓ)

/-! ## What every device knows -/

/-- The cells by number: the transfer semaphores in order, then the barrier. -/
def cellAt (i : Fin 81) : Cell := if i.val < 80 then famOf i.val else .bar

/-- The number of a cell. -/
def cellNo : Cell → Fin 81
  | .bar => 80
  | .dma f j => ⟨(f.base + j) % 80, by omega⟩

theorem cellAt_cellNo {x : Cell} (h : okC x = true) : cellAt (cellNo x) = x := by
  cases x with
  | bar => rfl
  | dma f j =>
    unfold cellAt cellNo
    rw [if_pos (Nat.mod_lt _ (by decide))]
    exact famOf_base f j (of_decide_eq_true h)

/-- Every device's cells follow the schedule and have begun, and the levels of waiting are as agreed. -/
def Ctx : sProp 𝕄 :=
  iprop((bigSep Finset.univ fun cx : Dev nD × Fin 81 =>
      iprop((∃ κ : ℕ, cellInv ER (Rd m) κ (kc cx.1 (cellAt cx.2))) ∗ reached ER (kc cx.1 (cellAt cx.2)) 0))
    ∗ levAts (L 64) lv)

instance Ctx_persistent : BI.Persistent (Ctx m) := by unfold Ctx; infer_instance

theorem Ctx_cell (c : Dev nD) {x : Cell} (h : okC x = true) :
    Ctx m ⊢ iprop((∃ κ : ℕ, cellInv ER (Rd m) κ (kc c x)) ∗ reached ER (kc c x) 0) := by
  have e : (bigSep Finset.univ fun cx : Dev nD × Fin 81 =>
      iprop((∃ κ : ℕ, cellInv ER (Rd m) κ (kc cx.1 (cellAt cx.2))) ∗ reached ER (kc cx.1 (cellAt cx.2)) 0) : sProp 𝕄)
      ⊢ iprop((∃ κ : ℕ, cellInv ER (Rd m) κ (kc c (cellAt (cellNo x)))) ∗ reached ER (kc c (cellAt (cellNo x))) 0) :=
    bigSep_elim (Finset.mem_univ (c, cellNo x))
  rw [cellAt_cellNo h] at e
  unfold Ctx
  iintro ⟨H, -⟩
  iapply e; iexact H

theorem Ctx_inv (c : Dev nD) {x : Cell} (h : okC x = true) : Ctx m ⊢ iprop(∃ κ : ℕ, cellInv ER (Rd m) κ (kc c x)) := by
  iintro H
  ihave H' := (Ctx_cell m c h) $$ H
  icases H' with ⟨H, -⟩
  iexact H

theorem Ctx_reached (c : Dev nD) {x : Cell} (h : okC x = true) : Ctx m ⊢ reached ER (kc c x) 0 := by
  iintro H
  ihave H' := (Ctx_cell m c h) $$ H
  icases H' with ⟨-, H⟩
  iexact H

theorem Ctx_lev : Ctx m ⊢ levAts (L 64) lv := by
  unfold Ctx; iintro ⟨-, H⟩; iexact H

/-! ## Holdings and dues -/

/-- What a device holds between two operations. -/
inductive Res
  /-- an atom on a neighbour -/
  | mem (p : ℕ) (a : Atom)
  /-- that the device is at round `r` of its cell -/
  | pos (x : Cell) (r : ℕ)
  /-- the right to pay duty `d` of round `r` of a neighbour's cell -/
  | tok (p : ℕ) (x : Cell) (r d : ℕ)
  /-- the right to wait once on the cell, at level `l` -/
  | cred (x : Cell) (l : ℕ)
deriving DecidableEq

/-- See `Res`. -/
def res (c : Dev nD) : Res → sProp 𝕄
  | .mem p a => atom m (peer p c) a
  | .pos x r => atPos ER (kc c x) r ∅ 0
  | .tok p x r d => dutyTok ER (kc (peer p c) x) r d
  | .cred x l => Idealize.ShloMosaic.cred (tallyAt (kc c x) l (credAmt x))

/-- Holding everything in a list. -/
def resL (c : Dev nD) : List Res → sProp 𝕄
  | [] => iprop(emp)
  | a :: l => iprop(res m c a ∗ resL c l)

theorem resL_append (c : Dev nD) (l l' : List Res) : resL m c (l ++ l') ⊢ iprop(resL m c l ∗ resL m c l') := by
  induction l with
  | nil => iintro H; isplitr; · unfold resL; iempintro
           iexact H
  | cons a l ih =>
    show iprop(res m c a ∗ resL m c (l ++ l')) ⊢ iprop((res m c a ∗ resL m c l) ∗ resL m c l')
    iintro ⟨Ha, H⟩
    ihave H' := ih $$ H
    icases H' with ⟨H1, H2⟩
    isplitl [Ha H1]
    · isplitl [Ha] <;> iassumption
    iexact H2

theorem resL_join (c : Dev nD) (l l' : List Res) : iprop(resL m c l ∗ resL m c l') ⊢ resL m c (l ++ l') := by
  induction l with
  | nil => iintro ⟨-, H⟩; iexact H
  | cons a l ih =>
    show iprop((res m c a ∗ resL m c l) ∗ resL m c l') ⊢ iprop(res m c a ∗ resL m c (l ++ l'))
    iintro ⟨⟨Ha, H1⟩, H2⟩
    isplitl [Ha]; · iexact Ha
    iapply ih
    isplitl [H1] <;> iassumption

/-- Atoms on neighbours are holdings. -/
theorem resL_atoms (c : Dev nD) (l : List (ℕ × Atom)) : atomsL m c l ⊢ resL m c (l.map fun q => .mem q.1 q.2) := by
  induction l with
  | nil => exact .rfl
  | cons a l ih =>
    show iprop(atom m (peer a.1 c) a.2 ∗ atomsL m c l) ⊢ iprop(atom m (peer a.1 c) a.2 ∗ resL m c _)
    exact sep_mono_right ih

/-- Own atoms, as the neighbour they are handed to receives them. -/
theorem atoms_hand (c : Dev nD) (p : ℕ) (l : List Atom) :
    resL m c (l.map (.mem 0)) ⊢ atomsL m (peer p c) (l.map (Prod.mk p)) := by
  induction l with
  | nil => exact .rfl
  | cons a l ih =>
    show iprop(atom m c a ∗ resL m c _) ⊢ iprop(atom m (peer p (peer p c)) a ∗ atomsL m (peer p c) _)
    rw [peer_peer]
    exact sep_mono_right ih

/-- A payment still to make: to the cell of a neighbour, at a level. -/
structure Due where
  p : ℕ
  x : Cell
  l : ℕ
deriving DecidableEq

/-- The dues of a device. -/
def owed (c : Dev nD) (ds : List Due) : CellTallies nD τ sig ℕ :=
  tallyL (ds.map fun d => (kc (peer d.p c) d.x, d.l, amt d.x))

/-- A wait below everything still owed may be made. -/
theorem mayWait (c : Dev nD) (s : SemLoc sig) {l : ℕ} (hl : l < 64) (ds : List Due) (h : ∀ d ∈ ds, l < d.l ∧ d.l < 64) :
    (levAts (L 64) lv : sProp 𝕄) ⊢ MayWait (c : Thread nD τ) s l (owed c ds) :=
  mayWait_of hl c s _ fun g k hk => by
    obtain ⟨y, hy, rfl, rfl⟩ := tallyL_pos hk
    obtain ⟨d, hd, rfl⟩ := List.mem_map.mp hy
    exact ⟨mem_L' rfl (h d hd).2, (h d hd).1⟩

/-- What every device knows lets it wait below everything it still owes. -/
theorem Ctx_mayWait (c : Dev nD) (s : SemLoc sig) {l : ℕ} (hl : l < 64) (ds : List Due) (h : ∀ d ∈ ds, l < d.l ∧ d.l < 64) :
    Ctx m ⊢ MayWait (c : Thread nD τ) s l (owed c ds) := by
  have hw := mayWait (F := F) c s hl ds h
  unfold Ctx
  iintro ⟨-, H⟩
  iapply hw
  iexact H

/-! ## Rules -/

/-- The program `p` on device `c` goes from `pre` to `post`. -/
def Step (c : Dev nD) (p : KProg F) (pre post : sProp 𝕄) : Prop :=
  ∀ (k : PUnit → KProg F) (Q : PUnit → sProp 𝕄),
    pre ⊢ iprop((post -∗ wp frame (wpE (defs₀ (F := F)) 𝒱₀ (c : Thread nD τ) none) Set.univ (k ⟨⟩) Q)
      -∗ wp frame (wpE (defs₀ (F := F)) 𝒱₀ (c : Thread nD τ) none) Set.univ (p.bind k) Q)

theorem Step.mono {c : Dev nD} {p : KProg F} {pre pre' post post' : sProp 𝕄} (h : Step c p pre post)
    (h1 : pre' ⊢ pre) (h2 : post ⊢ post') : Step c p pre' post' := fun k Q => by
  refine h1.trans ((h k Q).trans ?_)
  iintro H Hk
  iapply H
  iintro Hp
  iapply Hk
  iapply h2
  iexact Hp

/-- A step leaves what it does not use. -/
theorem Step.frame {c : Dev nD} {p : KProg F} {pre post : sProp 𝕄} (R : sProp 𝕄) (h : Step c p pre post) :
    Step c p iprop(pre ∗ R) iprop(post ∗ R) := fun k Q => by
  iintro ⟨H, HR⟩ Hk
  iapply (h k Q) $$ H
  iintro Hp
  iapply Hk
  isplitl [Hp] <;> iassumption

/-- Waiting for the transfer of a round. -/
theorem step_wait (c : Dev nD) {f : Fam} {j r l : ℕ} (hx : okC (.dma f j) = true) (hr : r < nRounds (.dma f j))
    {sp sp' : Space} {src : Memref sig .tc sp S512x1024 .f32} {dst : Memref sig .tc sp' S512x1024 .f32}
    {h1 : src.view.WordExact} {h2 : dst.view.WordExact} (hN : dst.view.dmaCredit = credN)
    (hl : l < 64) (ds : List Due) (hds : ∀ d ∈ ds, l < d.l ∧ d.l < 64) (W : Waits sig ℕ) :
    Step c (Prog.lift (.waitDma2 (dsem f j) src dst h1 h2) : KProg F)
      iprop(Ctx m ∗ resL m c [.pos (.dma f j) r, .cred (.dma f j) l] ∗ owes (c : Thread nD τ) (owed c ds) W)
      iprop(resL m c (.pos (.dma f j) (r + 1) :: .mem 0 (.rch (.dma f j) (r + 1)) :: (pay (.dma f j) r 0).map fun q => .mem q.1 q.2)
        ∗ ∃ W', owes (c : Thread nD τ) (owed c ds) W') := fun k Q => by
  simp only [Prog.lift, Prog.bind_op, Prog.bind_ret, resL, res, atom, peer_zero, credAmt, reduceCtorEq, if_false]
  have hcr : (Idealize.ShloMosaic.cred (tallyAt (kc c (.dma f j)) l credN) : sProp 𝕄)
      = Idealize.ShloMosaic.cred (tallyAt ((c : Thread nD τ), SemLoc.dma (dsem f j)) l dst.view.dmaCredit) := by rw [hN]; rfl
  have hrest := rest_dma m c hx hr
  rw [show kc c (.dma f j) = ((c : Thread nD τ), SemLoc.dma (dsem f j)) from rfl] at hrest
  have hmw := Ctx_mayWait m c (.dma (dsem f j)) hl ds hds
  iintro ⟨#HC, ⟨Hpos, Hcr, -⟩, HO⟩ Hk
  ihave HI := (Ctx_inv m c hx) $$ HC
  icases HI with ⟨%κ, #HI⟩
  iapply (Rounds.wp_wait_rest_token 𝒱₀ ER (Rd m) (c : Thread nD τ) none (κ := κ)
    (wpE_waitDma2_eq 𝒱₀ (c : Thread nD τ) none Set.univ) (Set.mem_univ _) l (O := owed c ds) (W := W) (R := r) (m := 0) (T := ∅)
    (by rw [Nat.zero_add, show ((c : Thread nD τ), SemLoc.dma (dsem f j)) = kc c (.dma f j) from rfl, expect_kc m c hx r hr]; exact hN)) $$ [Hpos Hcr HO]
  · isplitr; · iexact HI
    isplitl [Hcr]
    · iapply (Entails.of_eq hcr)
      iexact Hcr
    isplitl [HO]; · iexact HO
    isplitr; · iapply hmw; iexact HC
    iexact Hpos
  iintro ⟨HO, Hpos, Hr, Hpay⟩
  ihave Hp := (Entails.of_eq hrest) $$ Hpay
  iapply Hk
  isplitr [HO]
  · isplitl [Hpos]; · iexact Hpos
    isplitl [Hr]; · iexact Hr
    iapply (resL_atoms m c); iexact Hp
  · iexists _; iexact HO

/-- A transfer to a neighbour. -/
theorem step_send (c : Dev nD) (p : ℕ) {f f' : Fam} {j j' r r' l : ℕ} (hx : okC (.dma f j) = true) (hr : r < nRounds (.dma f j))
    (hx' : okC (.dma f' j') = true) (hr' : r' < nRounds (.dma f' j'))
    {sp sp' : Space} {src : Memref sig .tc sp S512x1024 .f32} {dst : Memref sig .tc sp' S512x1024 .f32}
    {hsc : dst.view.ref.isScScratch = false} {h1 : src.view.WordExact} {h2 : dst.view.WordExact}
    {h3 : DmaTarget.Typed (nD := nD) (τ := τ) sp (.dma (dsem f' j')) (.remote (Dev.tc (peer p c)) dst (.dma (dsem f j)) hsc)}
    (hN : dst.view.amount (.dma (dsem f' j')) = credN) {q : PosShare TreeShare} {v : Blk F} {EX : sProp 𝕄}
    (hpay₁ : owns (c : Thread nD τ) src q v ⊢ atomsL m c (pay (.dma f j) r 0))
    (hpay₂ : iprop(owns (peer p c : Thread nD τ) dst fullShare v ∗ EX) ⊢ atomsL m (peer p c) (pay (.dma f' j') r' 0))
    (ds : List Due) (W : Waits sig ℕ) :
    Step c (Prog.lift (.enqueueDma src (.remote (Dev.tc (peer p c)) dst (.dma (dsem f j)) hsc) (.dma (dsem f' j')) h1 h2 h3) : KProg F)
      iprop(Ctx m ∗ (owns (c : Thread nD τ) src q v ∗ someAt (peer p c) dst ∗ EX
          ∗ dutyTok ER (kc c (.dma f j)) r 0 ∗ reached ER (kc c (.dma f j)) r
          ∗ dutyTok ER (kc (peer p c) (.dma f' j')) r' 0 ∗ reached ER (kc (peer p c) (.dma f' j')) r')
        ∗ owes (c : Thread nD τ) (owed c (⟨p, .dma f' j', l⟩ :: ds)) W)
      iprop(resL m c [.cred (.dma f j) 0] ∗ ∃ W', owes (c : Thread nD τ) (owed c ds) W') := fun k Q => by
  simp only [Prog.lift, Prog.bind_op, Prog.bind_ret, resL, res, atom, peer_zero, credAmt, reduceCtorEq, if_false]
  unfold someAt owns
  iintro ⟨#HC, ⟨⟨%fs, %hfs, Hs⟩, ⟨%v', %fd, %hfd, Hd⟩, HX, Ht, Hr, Ht', Hr'⟩, HO⟩ Hk
  ihave HI := (Ctx_inv m c hx) $$ HC
  icases HI with ⟨%κ₁, #HI⟩
  ihave HI' := (Ctx_inv m (peer p c) hx') $$ HC
  icases HI' with ⟨%κ₂, #HI'⟩
  iapply (Rounds.wp_send_pointsTo_with 𝒱₀ ER (Rd m) (c : Thread nD τ) none (κ₁ := κ₁) (κ₂ := κ₂) (F := EX)
    (r₁ := r) (r₂ := r') (d₁ := 0) (d₂ := 0) (fs := fs) (fd := fd) (q := q)
    (mem_duties m c hx hr) (mem_duties m (peer p c) hx' hr')
    l 0 credN hN (amount_kc m c hx r 0) (amount_kc m (peer p c) hx' r' 0) (owed c ds)
    (by show tallyAt (kc (peer p c) (.dma f' j')) l credN + owed c ds = _; exact add_comm _ _) (W := W)
    (by
      refine (owns_intro (Ix := ℕ) (Name := ℕ) (U := UU) (Lvl := ℕ) (c : Thread nD τ) src q fs).trans ?_
      rw [hfs]
      exact hpay₁.trans (Entails.of_eq (payload_kc m c hx r 0).symm))
    (by
      rw [hfs]
      exact (sep_mono_left (owns_written (peer p c) dst fd v)).trans (hpay₂.trans (Entails.of_eq (payload_kc m (peer p c) hx' r' 0).symm))))
    $$ [Hs Hd HX Ht Hr Ht' Hr' HO]
  · isplitr; · iexact HI
    isplitr; · iexact HI'
    isplitl [Hs]; · iexact Hs
    isplitl [Hd HX]
    · isplitl [Hd] <;> iassumption
    isplitl [HO]; · iexact HO
    isplitl [Ht]; · iexact Ht
    isplitl [Hr]; · iexact Hr
    isplitl [Ht'] <;> iassumption
  iintro ⟨Hcr, HO⟩
  iapply Hk
  isplitl [Hcr]
  · isplitl; · iexact Hcr
    iempintro
  · iexists _; iexact HO

/-- A transfer on the device itself. -/
theorem step_copy (c : Dev nD) {f : Fam} {j r : ℕ} (hx : okC (.dma f j) = true) (hr : r < nRounds (.dma f j))
    {sp sp' : Space} {src : Memref sig .tc sp S512x1024 .f32} {dst : Memref sig .tc sp' S512x1024 .f32}
    {h1 : src.view.WordExact} {h2 : dst.view.WordExact} {h3 : DmaTarget.Typed (nD := nD) (τ := τ) sp (.dma (dsem f j)) (.here (p := .tc) dst)}
    (hN : dst.view.amount (.dma (dsem f j)) = credN) {q : PosShare TreeShare} {v : Blk F}
    (hpay : iprop(owns (c : Thread nD τ) dst fullShare v ∗ owns (c : Thread nD τ) src q v) ⊢ atomsL m c (pay (.dma f j) r 0))
    (ds : List Due) (W : Waits sig ℕ) :
    Step c (Prog.lift (.enqueueDma src (.here dst) (.dma (dsem f j)) h1 h2 h3) : KProg F)
      iprop(Ctx m ∗ (owns (c : Thread nD τ) src q v ∗ someAt c dst ∗ dutyTok ER (kc c (.dma f j)) r 0 ∗ reached ER (kc c (.dma f j)) r)
        ∗ owes (c : Thread nD τ) (owed c ds) W)
      iprop(resL m c [.cred (.dma f j) 0] ∗ ∃ W', owes (c : Thread nD τ) (owed c ds) W') := fun k Q => by
  simp only [Prog.lift, Prog.bind_op, Prog.bind_ret, resL, res, atom, peer_zero, credAmt, reduceCtorEq, if_false]
  unfold someAt owns
  iintro ⟨#HC, ⟨⟨%fs, %hfs, Hs⟩, ⟨%v', %fd, %hfd, Hd⟩, Ht, Hr⟩, HO⟩ Hk
  ihave HI := (Ctx_inv m c hx) $$ HC
  icases HI with ⟨%κ, #HI⟩
  iapply (Rounds.wp_copy_pointsTo 𝒱₀ ER (Rd m) (c : Thread nD τ) none (κ := κ) (r := r) (d := 0) (fs := fs) (fd := fd) (q := q)
    (mem_duties m c hx hr) 0 credN hN (amount_kc m c hx r 0)
    (by
      rw [hfs]
      have hs := owns_intro (Ix := ℕ) (Name := ℕ) (U := UU) (Lvl := ℕ) (c : Thread nD τ) src q fs
      rw [hfs] at hs
      exact (Idealize.SL.BI.Laws.sep_mono (owns_written c dst fd v) hs).trans (hpay.trans (Entails.of_eq (payload_kc m c hx r 0).symm))))
    $$ [Hs Hd Ht Hr]
  · isplitr; · iexact HI
    isplitl [Hs]; · iexact Hs
    isplitl [Hd]; · iexact Hd
    isplitl [Ht] <;> iassumption
  iintro Hcr
  iapply Hk
  isplitl [Hcr]
  · isplitl; · iexact Hcr
    iempintro
  · iexists _; iexact HO

/-- A signal on a neighbour's barrier. -/
theorem step_signal (c : Dev nD) (p : ℕ) (hp : p ∈ ({1, 2, 3} : Finset ℕ)) (ds : List Due) (W : Waits sig ℕ) :
    Step c (semSignalWord (peer p c) barS 1#32 : KProg F)
      iprop(Ctx m ∗ resL m c (.tok p .bar 0 p :: (barPay p).map (.mem 0)) ∗ owes (c : Thread nD τ) (owed c (⟨p, .bar, 1⟩ :: ds)) W)
      iprop(resL m c [] ∗ ∃ W', owes (c : Thread nD τ) (owed c ds) W') := fun k Q => by
  simp only [semSignalWord, Prog.lift, Prog.bind_op, Prog.bind_ret, resL, res]
  have hpay : resL m c ((barPay p).map (.mem 0)) ⊢ (Rd m).payload (kc (peer p c) .bar) 0 p :=
    (atoms_hand m c p (barPay p)).trans (Entails.of_eq (payload_kc m (peer p c) (x := .bar) rfl 0 p).symm)
  rw [show kc (peer p c) .bar = ((peer p c : Thread nD τ), SemLoc.reg barS) from rfl] at hpay
  have hr := Ctx_reached m (peer p c) (x := .bar) rfl
  iintro ⟨#HC, ⟨Ht, HX⟩, HO⟩ Hk
  ihave HI := (Ctx_inv m (peer p c) (x := .bar) rfl) $$ HC
  icases HI with ⟨%κ, #HI⟩
  iapply (Rounds.wp_signal 𝒱₀ ER (Rd m) (c : Thread nD τ) none (dst := (peer p c : Thread nD τ)) (κ := κ)
      (d := p) (mem_duties_bar m (peer p c) hp) (amount_kc m (peer p c) (x := .bar) rfl 0 p) 1 (owed c ds)
      (by show tallyAt (kc (peer p c) .bar) 1 1 + owed c ds = _; exact add_comm _ _)) $$ [HO Ht HX]
  · isplitr; · iexact HI
    isplitl [HO]; · iexact HO
    isplitl [Ht]; · iexact Ht
    isplitl [HX]; · iapply hpay; iexact HX
    iapply hr; iexact HC
  iintro HO
  iapply Hk
  isplitr
  · iempintro
  · iexists _; iexact HO

/-- The wait for the three neighbours' signals. -/
theorem step_bar (c : Dev nD) (ds : List Due) (hds : ∀ d ∈ ds, 1 < d.l ∧ d.l < 64) (W : Waits sig ℕ) :
    Step c (semWaitWord barS 3#32 : KProg F)
      iprop(Ctx m ∗ resL m c [.pos .bar 0, .cred .bar 1] ∗ owes (c : Thread nD τ) (owed c ds) W)
      iprop(resL m c (.pos .bar 1 :: (pay .bar 0 1 ++ (pay .bar 0 2 ++ pay .bar 0 3)).map fun q => .mem q.1 q.2)
        ∗ ∃ W', owes (c : Thread nD τ) (owed c ds) W') := fun k Q => by
  simp only [semWaitWord, Prog.lift, Prog.bind_op, Prog.bind_ret, resL, res, credAmt, if_true, List.map_append]
  have hmw := Ctx_mayWait m c (.reg barS) (l := 1) (by decide) ds hds
  have hrest := rest_bar m c
  rw [show kc c .bar = ((c : Thread nD τ), SemLoc.reg barS) from rfl] at hrest
  have hj := resL_join m c
  iintro ⟨#HC, ⟨Hpos, Hcr, -⟩, HO⟩ Hk
  ihave HI := (Ctx_inv m c (x := .bar) rfl) $$ HC
  icases HI with ⟨%κ, #HI⟩
  iapply (Rounds.wp_wait_rest_token 𝒱₀ ER (Rd m) (c : Thread nD τ) none (κ := κ)
    (wpE_semWait_eq 𝒱₀ (c : Thread nD τ) none Set.univ) (Set.mem_univ _) 1 (O := owed c ds) (W := W) (R := 0) (m := 0) (T := ∅)
    (by rw [Nat.zero_add, show ((c : Thread nD τ), SemLoc.reg barS) = kc c .bar from rfl, expect_kc m c (x := .bar) rfl 0 (by decide)]; rfl)) $$ [Hpos Hcr HO]
  · isplitr; · iexact HI
    isplitl [Hcr]; · iexact Hcr
    isplitl [HO]; · iexact HO
    isplitr; · iapply hmw; iexact HC
    iexact Hpos
  iintro ⟨HO, Hpos, -, Hpay⟩
  ihave Hp := (Entails.of_eq hrest) $$ Hpay
  icases Hp with ⟨H1, H2, H3⟩
  iapply Hk
  isplitr [HO]
  · isplitl [Hpos]; · iexact Hpos
    iapply hj
    isplitl [H1]; · iapply (resL_atoms m c); iexact H1
    iapply hj
    isplitl [H2]; · iapply (resL_atoms m c); iexact H2
    iapply (resL_atoms m c); iexact H3
  · iexists _; iexact HO

/-- The addition's operations one after the other. -/
theorem add_ops (c : Dev nD) (k : ℕ) (kk : PUnit → KProg F) :
    (actProg c (.add k) : KProg F).bind kk
      = .op (.load (Memref.whole cc0_scratch1) (rect4 k).toLoadRect (View.loadsAt_vmem h_S1x512x1024)) fun v =>
        .op (.load (Memref.whole cc0_scratch0) (rect6 k).toLoadRect (View.loadsAt_vmem h_S1x512x1024)) fun w =>
        .op (.load (Memref.whole cc0_scratch1) (rect4 k).toLoadRect (View.loadsAt_vmem h_S1x512x1024)) fun _ =>
        .op (.store (Memref.whole cc0_scratch1) (rect4 k) (sumPay v w) Finset.univ (View.stores_vmem_bits_univ h_S1x512x1024 rfl) (.inl rfl)) kk := rfl

/-- A slot holding the sum, in the three shares the transfers out of it read. -/
theorem owns_three (c : Dev nD) {sp : Space} (r : Memref sig .tc sp S512x1024 .f32) (v : Blk F) :
    (owns (c : Thread nD τ) r fullShare v : sProp 𝕄)
      ⊢ iprop(owns (c : Thread nD τ) r (sh3 0) v ∗ owns (c : Thread nD τ) r (sh3 1) v ∗ owns (c : Thread nD τ) r (sh3 2) v) :=
  (owns_split_share c r (PosShare.mem_left_op_right fullShare) v).trans
    (sep_mono_right (owns_split_share c r (PosShare.mem_left_op_right fullShare.right) v))

/-- The three shares together. -/
theorem three_owns (c : Dev nD) {sp : Space} (r : Memref sig .tc sp S512x1024 .f32) (v : Blk F) :
    iprop(owns (c : Thread nD τ) r (sh3 0) v ∗ owns (c : Thread nD τ) r (sh3 1) v ∗ owns (c : Thread nD τ) r (sh3 2) v)
      ⊢ (owns (c : Thread nD τ) r fullShare v : sProp 𝕄) :=
  (sep_mono_right (owns_join_share c r (PosShare.mem_left_op_right fullShare.right) v)).trans
    (owns_join_share c r (PosShare.mem_left_op_right fullShare) v)

/-- The addition of a chunk. -/
theorem step_add (c : Dev nD) (k : ℕ) :
    Step c (actProg c (.add k) : KProg F)
      (resL m c [.mem 0 (.xsX k), .mem 0 (.slIn k)])
      (resL m c [.mem 0 (.xsS 0 k), .mem 0 (.xsS 1 k), .mem 0 (.xsS 2 k), .mem 0 (.slAny (k % 6))]) := fun kk Q => by
  rw [add_ops]
  simp only [resL, res, atom, peer_zero]
  have hsum := owns_three (F := F) c (slotX k) (sumBlk m (yQ k) (yK k) c)
  rw [slotL_congr (Nat.mod_mod k 6)]
  have hx : ((Memref.whole cc0_scratch1).access (rect4 k)).set ⊆ (slotX k).view.set := by rw [slotX_set]
  have hl : ((Memref.whole cc0_scratch0).access (rect6 k)).set ⊆ (slotL k).view.set := by rw [slotL_set]
  unfold someAt
  have hX : (owns (c : Thread nD τ) (slotX k) fullShare (xBlk m (yQ k) (yK k) c) : sProp 𝕄)
      = iprop(∃ f, ⌜(slotX k).view.read (Elt F) f = xBlk m (yQ k) (yK k) c⌝
          ∗ (((Memref.whole cc0_scratch1).access (rect4 k)).loc (c : Thread nD τ)) ↦[(slotX k).view.set]{fullShare} f) := rfl
  have hL : (owns (c : Thread nD τ) (slotL k) fullShare (xBlk m (yQ k) (yK k) (peer 1 c)) : sProp 𝕄)
      = iprop(∃ f, ⌜(slotL k).view.read (Elt F) f = xBlk m (yQ k) (yK k) (peer 1 c)⌝
          ∗ (((Memref.whole cc0_scratch0).access (rect6 k)).loc (c : Thread nD τ)) ↦[(slotL k).view.set]{fullShare} f) := rfl
  rw [hX, hL]
  iintro ⟨⟨%f, %hf, Hf⟩, ⟨%g, %hg, Hg⟩, -⟩ Hk
  iapply (wp_load_rect 𝒱₀ (c : Thread nD τ) none Set.univ (m := Memref.whole cc0_scratch1) (r := rect4 k) hx) $$ Hf
  iintro Hf
  iapply (wp_load_rect 𝒱₀ (c : Thread nD τ) none Set.univ (m := Memref.whole cc0_scratch0) (r := rect6 k) hl) $$ Hg
  iintro Hg
  iapply (wp_load_rect 𝒱₀ (c : Thread nD τ) none Set.univ (m := Memref.whole cc0_scratch1) (r := rect4 k) hx) $$ Hf
  iintro Hf
  iapply (wp_store 𝒱₀ (c : Thread nD τ) none Set.univ (m := Memref.whole cc0_scratch1) (r := rect4 k) (Mk := Finset.univ) hx) $$ Hf
  iintro Hf
  have hv := add_read k f g
  rw [hf, hg] at hv
  have hS := owns_intro (Ix := ℕ) (Name := ℕ) (U := UU) (Lvl := ℕ) (c : Thread nD τ) (slotX k) fullShare
    (((Memref.whole cc0_scratch1).access (rect4 k)).write (Elt F) f
      (sumPay ((Memref.whole cc0_scratch1).view.readAt (Elt F) (rect4 k).toLoadRect f)
        ((Memref.whole cc0_scratch0).view.readAt (Elt F) (rect6 k).toLoadRect g)) Finset.univ)
  rw [hv] at hS
  have hS' : ((((Memref.whole cc0_scratch1).access (rect4 k)).loc (c : Thread nD τ)) ↦[(slotX k).view.set]{fullShare}
      (((Memref.whole cc0_scratch1).access (rect4 k)).write (Elt F) f
        (sumPay (((Memref.whole cc0_scratch1).access (rect4 k)).read (Elt F) f)
          (((Memref.whole cc0_scratch0).access (rect6 k)).read (Elt F) g)) Finset.univ) : sProp 𝕄) ⊢ _ := hS.trans hsum
  ihave H := hS' $$ Hf
  icases H with ⟨H0, H1, H2⟩
  iapply Hk
  isplitl [H0]; · iexact H0
  isplitl [H1]; · iexact H1
  isplitl [H2]; · iexact H2
  isplitl
  · iexists ((slotL k).view.read (Elt F) g)
    have hG : ((((Memref.whole cc0_scratch0).access (rect6 k)).loc (c : Thread nD τ)) ↦[(slotL k).view.set]{fullShare} g : sProp 𝕄)
        ⊢ owns (c : Thread nD τ) (slotL k) fullShare ((slotL k).view.read (Elt F) g) :=
      owns_intro (Ix := ℕ) (Name := ℕ) (U := UU) (Lvl := ℕ) (c : Thread nD τ) (slotL k) fullShare g
    iapply hG
    iexact Hg
  iempintro

end Cert.Allreduce

end
-- ==== Proof.Acts.lean ====
/-
What each operation of the body needs and what it leaves.

`need`, `gets`, `pays` and `level` list it operation by operation; `step_act` proves it from the rules.
-/
module

public import proofs.«01_k».proof.Proof.Steps

@[expose] public section

noncomputable section

namespace Cert.Allreduce

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig ℕ (Elt F) ℕ UU ℕ

variable (m : (ℓ : Loc nD τ sig) → Buf (Elt F) ℓ)

/-! ## The table -/

/-- That a round of a neighbour's cell has begun; of round 0 everyone knows. -/
def rchs (p : ℕ) (x : Cell) (r : ℕ) : List Res := if r = 0 then [] else [.mem p (.rch x r)]

/-- What a transfer to neighbour `p` needs: the source, the place it goes, the right to either end's cell, and what
    goes along with it. -/
def sendNeed (p : ℕ) (A B : Atom) (x : Cell) (r : ℕ) (x' : Cell) (r' : ℕ) (ex : List Atom) : List Res :=
  .mem 0 A :: .mem p B :: .tok 0 x r 0 :: .tok p x' r' 0 :: (rchs 0 x r ++ (rchs p x' r' ++ ex.map (.mem 0)))

/-- What a transfer on the device needs. -/
def copyNeed (A B : Atom) (x : Cell) (r : ℕ) : List Res := .mem 0 A :: .mem 0 B :: .tok 0 x r 0 :: rchs 0 x r

/-- What waiting for a round gives. -/
def waitGets (x : Cell) (r : ℕ) : List Res :=
  .pos x (r + 1) :: .mem 0 (.rch x (r + 1)) :: (pay x r 0).map fun q => .mem q.1 q.2

/-- What chunk `k`'s transfer across y takes along: the slot of the chunk three back, now read, and that its cell has
    moved on. -/
def along (k : ℕ) : List Atom :=
  if handsOn k then [.slAny ((k + 3) % 6), .rch (.dma .yR ((k + 3) % 6)) ((k + 3) / 6)] else []

/-- The operations there are. -/
def okA : Act → Bool
  | .sig p => decide (1 ≤ p ∧ p ≤ 3)
  | .bar => true
  | .stY k | .wsY k | .wrY k | .stL k | .wtL k | .add k | .stO k | .wtO k => decide (k < 21)
  | .stX k | .wsX k | .wrX k | .stZ k | .wsZ k | .wrZ k => decide (k < 16)
  | .stXZ t | .wsXZ t | .wrXZ t => decide (10 ≤ t ∧ t < 16)
  | .stZX t | .wsZX t | .wrZX t => decide (5 ≤ t ∧ t < 10)

/-- The cell and round an operation waits for, -/
def waitsFor : Act → Option (Cell × ℕ)
  | .wsY k => some (.dma .yS (k % 4), k / 4)
  | .wrY k => some (.dma .yR (k % 6), k / 6)
  | .wtL k => some (.dma .ld (k % 4), k / 4)
  | .wtO k => some (.dma .oc (k % 4), k / 4)
  | .wsX k => some (.dma .sxS (k % 4), k / 4)
  | .wsZ k => some (.dma .szS (k % 4), k / 4)
  | .wrX k => some (.dma .xin k, 0)
  | .wrZ k => some (.dma .zin k, 0)
  | .wsXZ t => some (.dma .rxS (t - 10), 0)
  | .wrXZ t => some (.dma .zr (t - 10), 0)
  | .wsZX t => some (.dma .rzS (t - 5), 0)
  | .wrZX t => some (.dma .xr (t - 5), 0)
  | _ => none

/-- and the level at which it waits. -/
def level : Act → ℕ
  | .bar => 1
  | .wrY k => k + 2
  | .wrX k | .wrZ k => k + 4
  | .wrXZ t | .wrZX t => t + 5
  | _ => 0

/-- What an operation needs. -/
def need : Act → List Res
  | .sig p => .tok p .bar 0 p :: (barPay p).map (.mem 0)
  | .bar => [.pos .bar 0, .cred .bar 1]
  | .stY k => sendNeed 1 (.xsh 0 (yQ k) (yK k)) (.slAny (k % 6)) (.dma .yS (k % 4)) (k / 4) (.dma .yR (k % 6)) (k / 6) (along k)
  | .stL k => copyNeed (.xsh 1 (yQ k) (yK k)) (.xsAny (k % 4)) (.dma .ld (k % 4)) (k / 4)
  | .add k => [.mem 0 (.xsX k), .mem 0 (.slIn k)]
  | .stO k => copyNeed (.xsS 0 k) (.oAny (yQ k) (yK k)) (.dma .oc (k % 4)) (k / 4)
  | .wtO k => [.pos (.dma .oc (k % 4)) (k / 4), .cred (.dma .oc (k % 4)) 0, .mem 0 (.xsS 1 k), .mem 0 (.xsS 2 k)]
  | .stX k => sendNeed 2 (.xsS 1 k) (.oAny 1 k) (.dma .sxS (k % 4)) (k / 4) (.dma .xin k) 0 []
  | .stZ k => sendNeed 3 (.xsS 2 k) (.oAny 2 k) (.dma .szS (k % 4)) (k / 4) (.dma .zin k) 0 []
  | .stXZ t => sendNeed 3 (.oS 1 t) (.oAny 3 t) (.dma .rxS (t - 10)) 0 (.dma .zr (t - 10)) 0 []
  | .stZX t => sendNeed 2 (.oS 2 t) (.oAny 3 t) (.dma .rzS (t - 5)) 0 (.dma .xr (t - 5)) 0 []
  | a => match waitsFor a with
    | some (x, r) => [.pos x r, .cred x (level a)]
    | none => []

/-- What an operation gives. -/
def gets : Act → List Res
  | .sig _ => []
  | .bar => .pos .bar 1 :: (pay .bar 0 1 ++ (pay .bar 0 2 ++ pay .bar 0 3)).map fun q => .mem q.1 q.2
  | .stY k => [.cred (.dma .yS (k % 4)) 0]
  | .stL k => [.cred (.dma .ld (k % 4)) 0]
  | .add k => [.mem 0 (.xsS 0 k), .mem 0 (.xsS 1 k), .mem 0 (.xsS 2 k), .mem 0 (.slAny (k % 6))]
  | .stO k => [.cred (.dma .oc (k % 4)) 0]
  | .wtO k => [.pos (.dma .oc (k % 4)) (k / 4 + 1), .mem 0 (.rch (.dma .oc (k % 4)) (k / 4 + 1)),
      .mem 0 (.oS (yQ k) (yK k)), .mem 0 (.xsAny (k % 4))]
  | .stX k => [.cred (.dma .sxS (k % 4)) 0]
  | .stZ k => [.cred (.dma .szS (k % 4)) 0]
  | .stXZ t => [.cred (.dma .rxS (t - 10)) 0]
  | .stZX t => [.cred (.dma .rzS (t - 5)) 0]
  | a => match waitsFor a with
    | some (x, r) => waitGets x r
    | none => []

/-- What an operation pays. -/
def pays : Act → List Due
  | .sig p => [⟨p, .bar, 1⟩]
  | .stY k => [⟨1, .dma .yR (k % 6), k + 2⟩]
  | .stX k => [⟨2, .dma .xin k, k + 4⟩]
  | .stZ k => [⟨3, .dma .zin k, k + 4⟩]
  | .stXZ t => [⟨3, .dma .zr (t - 10), t + 5⟩]
  | .stZX t => [⟨2, .dma .xr (t - 5), t + 5⟩]
  | _ => []

/-! ## The proof -/

theorem rchs_reached (c : Dev nD) (p : ℕ) {x : Cell} (hx : okC x = true) (r : ℕ) :
    iprop(Ctx m ∗ resL m c (rchs p x r)) ⊢ reached ER (kc (peer p c) x) r := by
  have h0 := Ctx_reached m (peer p c) hx
  unfold rchs
  by_cases h : r = 0
  · subst h
    rw [if_pos rfl]
    iintro ⟨H, -⟩
    iapply h0; iexact H
  · rw [if_neg h]
    simp only [resL, res, atom]
    iintro ⟨-, H, -⟩
    iexact H

/-- A transfer to a neighbour, its source and its place named as atoms. -/
theorem step_send_atoms (c : Dev nD) (p : ℕ) {f f' : Fam} {j j' r r' l : ℕ} (hx : okC (.dma f j) = true) (hr : r < nRounds (.dma f j))
    (hx' : okC (.dma f' j') = true) (hr' : r' < nRounds (.dma f' j'))
    {sp sp' : Space} {src : Memref sig .tc sp S512x1024 .f32} {dst : Memref sig .tc sp' S512x1024 .f32}
    {hsc : dst.view.ref.isScScratch = false} {h1 : src.view.WordExact} {h2 : dst.view.WordExact}
    {h3 : DmaTarget.Typed (nD := nD) (τ := τ) sp (.dma (dsem f' j')) (.remote (Dev.tc (peer p c)) dst (.dma (dsem f j)) hsc)}
    (hN : dst.view.amount (.dma (dsem f' j')) = credN) (q : PosShare TreeShare) (v : Blk F) {A B C : Atom} {ex : List Atom}
    (hA : atom m c A = owns (c : Thread nD τ) src q v) (hB : atom m (peer p c) B = someAt (peer p c) dst)
    (hC : atom m (peer p c) C = owns (peer p c : Thread nD τ) dst fullShare v)
    (hp : pay (.dma f j) r 0 = [(0, A)]) (hp' : pay (.dma f' j') r' 0 = (0, C) :: ex.map (Prod.mk p))
    (ds : List Due) (W : Waits sig ℕ) :
    Step c (Prog.lift (.enqueueDma src (.remote (Dev.tc (peer p c)) dst (.dma (dsem f j)) hsc) (.dma (dsem f' j')) h1 h2 h3) : KProg F)
      iprop(Ctx m ∗ resL m c (sendNeed p A B (.dma f j) r (.dma f' j') r' ex)
        ∗ owes (c : Thread nD τ) (owed c (⟨p, .dma f' j', l⟩ :: ds)) W)
      iprop(resL m c [.cred (.dma f j) 0] ∗ ∃ W', owes (c : Thread nD τ) (owed c ds) W') := by
  refine Step.mono (step_send m c p hx hr hx' hr' hN (q := q) (v := v) (EX := resL m c (ex.map (.mem 0)))
    ?_ ?_ ds W (h1 := h1) (h2 := h2) (h3 := h3) (l := l)) ?_ .rfl
  · rw [hp, ← hA]
    show atom m c A ⊢ iprop(atom m c A ∗ emp)
    iintro H
    isplitl; · iexact H
    iempintro
  · rw [hp', ← hC]
    exact sep_mono_right (atoms_hand m c p ex)
  · have h1 := rchs_reached m c 0 hx r
    have h2 := rchs_reached m c p hx' r'
    have ha := resL_append m c (rchs 0 (.dma f j) r) (rchs p (.dma f' j') r' ++ ex.map (.mem 0))
    have ha' := resL_append m c (rchs p (.dma f' j') r') (ex.map (.mem 0))
    rw [← hA, ← hB]
    unfold sendNeed
    simp only [resL, res, peer_zero]
    rw [peer_zero] at h1
    iintro ⟨#HC, ⟨HA, HB, Ht, Ht', HR⟩, HO⟩
    ihave HR := ha $$ HR
    icases HR with ⟨Hr, HR⟩
    ihave HR := ha' $$ HR
    icases HR with ⟨Hr', HX⟩
    isplitr; · iexact HC
    isplitr [HO]
    · isplitl [HA]; · iexact HA
      isplitl [HB]; · iexact HB
      isplitl [HX]; · iexact HX
      isplitl [Ht]; · iexact Ht
      isplitl [Hr]; · iapply h1; isplitr; · iexact HC
                      iexact Hr
      isplitl [Ht']; · iexact Ht'
      iapply h2; isplitr; · iexact HC
      iexact Hr'
    · iexact HO

/-- A transfer on the device, its source and its place named as atoms. -/
theorem step_copy_atoms (c : Dev nD) {f : Fam} {j r : ℕ} (hx : okC (.dma f j) = true) (hr : r < nRounds (.dma f j))
    {sp sp' : Space} {src : Memref sig .tc sp S512x1024 .f32} {dst : Memref sig .tc sp' S512x1024 .f32}
    {h1 : src.view.WordExact} {h2 : dst.view.WordExact} {h3 : DmaTarget.Typed (nD := nD) (τ := τ) sp (.dma (dsem f j)) (.here (p := .tc) dst)}
    (hN : dst.view.amount (.dma (dsem f j)) = credN) (q : PosShare TreeShare) (v : Blk F) {A B C : Atom}
    (hA : atom m c A = owns (c : Thread nD τ) src q v) (hB : atom m c B = someAt c dst)
    (hC : atom m c C = owns (c : Thread nD τ) dst fullShare v) (hp : pay (.dma f j) r 0 = [(0, C), (0, A)])
    (ds : List Due) (W : Waits sig ℕ) :
    Step c (Prog.lift (.enqueueDma src (.here dst) (.dma (dsem f j)) h1 h2 h3) : KProg F)
      iprop(Ctx m ∗ resL m c (copyNeed A B (.dma f j) r) ∗ owes (c : Thread nD τ) (owed c ds) W)
      iprop(resL m c [.cred (.dma f j) 0] ∗ ∃ W', owes (c : Thread nD τ) (owed c ds) W') := by
  refine Step.mono (step_copy m c hx hr hN (q := q) (v := v) ?_ ds W (h1 := h1) (h2 := h2) (h3 := h3)) ?_ .rfl
  · rw [hp, ← hA, ← hC]
    show iprop(atom m c C ∗ atom m c A) ⊢ iprop(atom m c C ∗ atom m c A ∗ emp)
    iintro ⟨H, H'⟩
    isplitl [H]; · iexact H
    isplitl; · iexact H'
    iempintro
  · have h1 := rchs_reached m c 0 hx r
    rw [← hA, ← hB]
    unfold copyNeed
    simp only [resL, res, peer_zero]
    rw [peer_zero] at h1
    iintro ⟨#HC, ⟨HA, HB, Ht, Hr⟩, HO⟩
    isplitr; · iexact HC
    isplitr [HO]
    · isplitl [HA]; · iexact HA
      isplitl [HB]; · iexact HB
      isplitl [Ht]; · iexact Ht
      iapply h1; isplitr; · iexact HC
      iexact Hr
    · iexact HO

/-- A chunk by round and place. -/
theorem div4 (k : ℕ) : 4 * (k / 4) + k % 4 = k := Nat.div_add_mod k 4
theorem div6 (k : ℕ) : 6 * (k / 6) + k % 6 = k := Nat.div_add_mod k 6

theorem slot_ok4 {f : Fam} (hf : f.size = 4) (k : ℕ) : okC (.dma f (k % 4)) = true :=
  decide_eq_true (by rw [hf]; exact Nat.mod_lt _ (by decide))

/-- Every transfer is of one size: 512 rows. -/
theorem credit_slotL (k : ℕ) : (slotL k).view.dmaCredit = credN := by
  show sig.dmaCredit .tc _ (slotL k).view.buf S512x1024 .f32 = sig.dmaCredit .tc _ (slotL 0).view.buf S512x1024 .f32
  rfl
theorem credit_slotX (k : ℕ) : (slotX k).view.dmaCredit = credN := by
  have h : (slotX k).view.dmaCredit = (slotX 0).view.dmaCredit := by
    show sig.dmaCredit .tc _ (slotX k).view.buf S512x1024 .f32 = sig.dmaCredit .tc _ (slotX 0).view.buf S512x1024 .f32
    rfl
  rw [h]
  rfl
theorem credit_oRows (w : ℕ) (c : Dev nD) (k : ℕ) : (oRows w c k).view.dmaCredit = credN := by
  have h : (oRows w c k).view.dmaCredit = (oRows 0 0 0).view.dmaCredit := by
    show sig.dmaCredit .tc _ (oRows w c k).view.buf S512x1024 .f32 = sig.dmaCredit .tc _ (oRows 0 0 0).view.buf S512x1024 .f32
    rfl
  rw [h]
  rfl
theorem credit_xRows (w : ℕ) (c : Dev nD) (k : ℕ) : (xRows w c k).view.dmaCredit = credN := by
  have h : (xRows w c k).view.dmaCredit = (xRows 0 0 0).view.dmaCredit := by
    show sig.dmaCredit .tc _ (xRows w c k).view.buf S512x1024 .f32 = sig.dmaCredit .tc _ (xRows 0 0 0).view.buf S512x1024 .f32
    rfl
  rw [h]
  rfl

/-- What `step_act` says of one operation. -/
def ActOk (c : Dev nD) (a : Act) : Prop :=
  okA a = true → ∀ (ds : List Due), (∀ d ∈ ds, level a < d.l ∧ d.l < 64) → ∀ W : Waits sig ℕ,
    Step c (actProg c a : KProg F)
      iprop(Ctx m ∗ resL m c (need a) ∗ owes (c : Thread nD τ) (owed c (pays a ++ ds)) W)
      iprop(resL m c (gets a) ∗ ∃ W', owes (c : Thread nD τ) (owed c ds) W')

theorem ok_sig (c : Dev nD) (p : ℕ) : ActOk m c (.sig p) := fun ha ds hds W => by
  have hp : 1 ≤ p ∧ p ≤ 3 := of_decide_eq_true ha
  exact step_signal m c p (by simp only [Finset.mem_insert, Finset.mem_singleton]; omega) ds W

theorem ok_bar (c : Dev nD) : ActOk m c .bar := fun ha ds hds W => step_bar m c ds hds W

theorem ok_stY (c : Dev nD) (k : ℕ) : ActOk m c (.stY k) := fun ha ds hds W => by
  have hk : k < 21 := of_decide_eq_true ha
  refine step_send_atoms m c 1 (slot_ok4 rfl k) (show k / 4 < (24 - k % 4) / 4 by omega)
    (decide_eq_true (show k % 6 < 6 by omega)) (show k / 6 < (26 - k % 6) / 6 by omega) (credit_slotL k) (sh2 0) (xBlk m (yQ k) (yK k) c)
    (C := .slIn k) rfl ?_ ?_ ?_ ?_ ds W
  · show someAt _ (slotL (k % 6)) = _
    rw [slotL_congr (Nat.mod_mod k 6)]
  · show owns (Val := Elt F) (peer 1 c : Thread nD τ) (slotL k) fullShare (xBlk m (yQ k) (yK k) (peer 1 (peer 1 c))) = _
    rw [peer_peer]
  · show [(0, Atom.xsh 0 (yQ (4 * (k / 4) + k % 4)) (yK (4 * (k / 4) + k % 4)))] = _
    rw [div4]
  · show (0, Atom.slIn (6 * (k / 6) + k % 6)) :: (if handsOn (6 * (k / 6) + k % 6) then _ else []) = _
    rw [div6]
    unfold along
    cases handsOn k <;> rfl

theorem ok_stL (c : Dev nD) (k : ℕ) : ActOk m c (.stL k) := fun ha ds hds W => by
  have hk : k < 21 := of_decide_eq_true ha
  refine step_copy_atoms m c (slot_ok4 rfl k) (show k / 4 < (24 - k % 4) / 4 by omega) (credit_slotX k) (sh2 1) (xBlk m (yQ k) (yK k) c)
    (C := .xsX k) rfl ?_ rfl ?_ ds W
  · show someAt _ (slotX (k % 4)) = _
    rw [slotX_congr (Nat.mod_mod k 4)]
  · show [(0, Atom.xsX (4 * (k / 4) + k % 4)), (0, Atom.xsh 1 (yQ (4 * (k / 4) + k % 4)) (yK (4 * (k / 4) + k % 4)))] = _
    rw [div4]

theorem ok_stO (c : Dev nD) (k : ℕ) : ActOk m c (.stO k) := fun ha ds hds W => by
  have hk : k < 21 := of_decide_eq_true ha
  refine step_copy_atoms m c (slot_ok4 rfl k) (show k / 4 < (24 - k % 4) / 4 by omega) (credit_oRows _ c _) (sh3 0) (sumBlk m (yQ k) (yK k) c)
    (C := .oS (yQ k) (yK k)) rfl rfl ?_ ?_ ds W
  · show owns (c : Thread nD τ) _ fullShare (oBlk m (yQ k) (yK k) c) = _
    congr 1
    unfold yQ yK
    by_cases h : k < 16
    · rw [if_pos h, if_pos h]; rfl
    · rw [if_neg h, if_neg h]; exact if_pos (by omega)
  · show [(0, Atom.oS (yQ (4 * (k / 4) + k % 4)) (yK (4 * (k / 4) + k % 4))), (0, Atom.xsS 0 (4 * (k / 4) + k % 4))] = _
    rw [div4]

theorem ok_stX (c : Dev nD) (k : ℕ) : ActOk m c (.stX k) := fun ha ds hds W => by
  have hk : k < 16 := of_decide_eq_true ha
  refine step_send_atoms m c 2 (slot_ok4 rfl k) (show k / 4 < 4 by omega)
    (decide_eq_true (show k < 16 from hk)) Nat.one_pos (credit_oRows 0 c k) (sh3 1) (sumBlk m (yQ k) (yK k) c)
    (C := .oS 1 k) rfl ?_ ?_ ?_ rfl ds W
  · rw [oRows_own_x]; rfl
  · show owns (Val := Elt F) (peer 2 c : Thread nD τ) (oRows 1 (peer 2 c) k) fullShare (sumBlk m 0 k (peer 2 (peer 2 c)) : Blk F) = _
    rw [oRows_own_x, peer_peer, show yQ k = 0 from if_pos hk, show yK k = k from if_pos hk]
  · show [(0, Atom.xsS 1 (4 * (k / 4) + k % 4))] = _
    rw [div4]

theorem ok_stZ (c : Dev nD) (k : ℕ) : ActOk m c (.stZ k) := fun ha ds hds W => by
  have hk : k < 16 := of_decide_eq_true ha
  refine step_send_atoms m c 3 (slot_ok4 rfl k) (show k / 4 < 4 by omega)
    (decide_eq_true (show k < 16 from hk)) Nat.one_pos (credit_oRows 0 c k) (sh3 2) (sumBlk m (yQ k) (yK k) c)
    (C := .oS 2 k) rfl ?_ ?_ ?_ rfl ds W
  · rw [oRows_own_z]; rfl
  · show owns (Val := Elt F) (peer 3 c : Thread nD τ) (oRows 2 (peer 3 c) k) fullShare (sumBlk m 0 k (peer 3 (peer 3 c)) : Blk F) = _
    rw [oRows_own_z, peer_peer, show yQ k = 0 from if_pos hk, show yK k = k from if_pos hk]
  · show [(0, Atom.xsS 2 (4 * (k / 4) + k % 4))] = _
    rw [div4]

theorem ok_stXZ (c : Dev nD) (t : ℕ) : ActOk m c (.stXZ t) := fun ha ds hds W => by
  have ht : 10 ≤ t ∧ t < 16 := of_decide_eq_true ha
  refine step_send_atoms m c 3 (decide_eq_true (show t - 10 < 6 by omega)) Nat.one_pos
    (decide_eq_true (show t - 10 < 6 by omega)) Nat.one_pos (credit_oRows 1 c t) fullShare (oBlk m 1 t c)
    (C := .oS 3 t) rfl ?_ ?_ ?_ ?_ ds W
  · rw [oRows_x_z]; rfl
  · show owns (Val := Elt F) (peer 3 c : Thread nD τ) (oRows 3 (peer 3 c) t) fullShare (if t < 5 then sumBlk m 3 t (peer 3 c) else (sumBlk m 0 t (peer 3 (peer 2 (peer 3 c))) : Blk F)) = _
    rw [oRows_x_z, if_neg (by omega), peer_comm23, peer_peer]; rfl
  · show [(0, Atom.oS 1 (t - 10 + 10))] = _
    rw [Nat.sub_add_cancel ht.1]
  · show [(0, Atom.oS 3 (t - 10 + 10))] = _
    rw [Nat.sub_add_cancel ht.1]; rfl

theorem ok_stZX (c : Dev nD) (t : ℕ) : ActOk m c (.stZX t) := fun ha ds hds W => by
  have ht : 5 ≤ t ∧ t < 10 := of_decide_eq_true ha
  refine step_send_atoms m c 2 (decide_eq_true (show t - 5 < 5 by omega)) Nat.one_pos
    (decide_eq_true (show t - 5 < 5 by omega)) Nat.one_pos (credit_oRows 2 c t) fullShare (oBlk m 2 t c)
    (C := .oS 3 t) rfl ?_ ?_ ?_ ?_ ds W
  · rw [oRows_z_x]; rfl
  · show owns (Val := Elt F) (peer 2 c : Thread nD τ) (oRows 3 (peer 2 c) t) fullShare (if t < 5 then sumBlk m 3 t (peer 2 c) else (sumBlk m 0 t (peer 3 (peer 2 (peer 2 c))) : Blk F)) = _
    rw [oRows_z_x, if_neg (by omega), peer_peer]; rfl
  · show [(0, Atom.oS 2 (t - 5 + 5))] = _
    rw [Nat.sub_add_cancel ht.1]
  · show [(0, Atom.oS 3 (t - 5 + 5))] = _
    rw [Nat.sub_add_cancel ht.1]; rfl

theorem ok_add (c : Dev nD) (k : ℕ) : ActOk m c (.add k) := fun ha ds hds W => by
  refine Step.mono (Step.frame (owes (c : Thread nD τ) (owed c ds) W) (step_add m c k)) ?_ ?_
  · iintro ⟨-, H, HO⟩
    isplitl [H]; · iexact H
    iexact HO
  · iintro ⟨H, HO⟩
    isplitl [H]; · iexact H
    iexists _; iexact HO

theorem ok_wtO (c : Dev nD) (k : ℕ) : ActOk m c (.wtO k) := fun ha ds hds W => by
  have hk : k < 21 := of_decide_eq_true ha
  have hw := step_wait m c (f := .oc) (slot_ok4 rfl k) (show k / 4 < (24 - k % 4) / 4 by omega)
    (src := slotX k) (dst := oRows (yQ k) c (yK k)) (h1 := (View.wordExact_bits rfl).reshape _ _) (h2 := View.wordExact_bits rfl)
    (credit_oRows _ c _) (show 0 < 64 by decide) ds hds W
  have h3 := three_owns (F := F) c (slotX k) (sumBlk m (yQ k) (yK k) c)
  refine Step.mono (Step.frame (resL m c [.mem 0 (.xsS 1 k), .mem 0 (.xsS 2 k)]) hw) ?_ ?_
  · unfold need
    simp only [resL, res, atom, peer_zero]
    iintro ⟨HC, ⟨H1, H2, H3, H4, -⟩, HO⟩
    isplitl [HC H1 H2 HO]
    · isplitl [HC]; · iexact HC
      isplitl [H1 H2]
      · isplitl [H1]; · iexact H1
        isplitl; · iexact H2
        iempintro
      iexact HO
    isplitl [H3]; · iexact H3
    isplitl; · iexact H4
    iempintro
  · unfold gets pay
    simp only [resL, res, atom, peer_zero, List.map, div4]
    rw [slotX_congr (Nat.mod_mod k 4)]
    unfold someAt
    iintro ⟨⟨⟨H1, H2, H3, H4, -⟩, HO⟩, H5, H6, -⟩
    isplitr [HO]
    · isplitl [H1]; · iexact H1
      isplitl [H2]; · iexact H2
      isplitl [H3]; · iexact H3
      isplitl
      · iexists _
        iapply h3
        isplitl [H4]; · iexact H4
        isplitl [H5] <;> iassumption
      iempintro
    iexact HO

theorem ok_wsY (c : Dev nD) (k : ℕ) : ActOk m c (.wsY k) := fun ha ds hds W => by
  have hk : k < 21 := of_decide_eq_true ha
  exact step_wait m c (slot_ok4 rfl k) (show k / 4 < (24 - k % 4) / 4 by omega) (credit_xRows _ c _) (show 0 < 64 by decide) ds hds W

theorem ok_wrY (c : Dev nD) (k : ℕ) : ActOk m c (.wrY k) := fun ha ds hds W => by
  have hk : k < 21 := of_decide_eq_true ha
  exact step_wait m c (decide_eq_true (show k % 6 < 6 by omega)) (show k / 6 < (26 - k % 6) / 6 by omega) (credit_slotL k)
    (show k + 2 < 64 by omega) ds hds W

theorem ok_wtL (c : Dev nD) (k : ℕ) : ActOk m c (.wtL k) := fun ha ds hds W => by
  have hk : k < 21 := of_decide_eq_true ha
  exact step_wait m c (slot_ok4 rfl k) (show k / 4 < (24 - k % 4) / 4 by omega) (credit_slotX k) (show 0 < 64 by decide) ds hds W

theorem ok_wsX (c : Dev nD) (k : ℕ) : ActOk m c (.wsX k) := fun ha ds hds W => by
  have hk : k < 16 := of_decide_eq_true ha
  exact step_wait m c (slot_ok4 rfl k) (show k / 4 < 4 by omega) (credit_slotX k) (show 0 < 64 by decide) ds hds W

theorem ok_wsZ (c : Dev nD) (k : ℕ) : ActOk m c (.wsZ k) := fun ha ds hds W => by
  have hk : k < 16 := of_decide_eq_true ha
  exact step_wait m c (slot_ok4 rfl k) (show k / 4 < 4 by omega) (credit_slotX k) (show 0 < 64 by decide) ds hds W

theorem ok_wrX (c : Dev nD) (k : ℕ) : ActOk m c (.wrX k) := fun ha ds hds W => by
  have hk : k < 16 := of_decide_eq_true ha
  exact step_wait m c (decide_eq_true (show k < 16 from hk)) Nat.one_pos (credit_oRows 1 c k) (show k + 4 < 64 by omega) ds hds W

theorem ok_wrZ (c : Dev nD) (k : ℕ) : ActOk m c (.wrZ k) := fun ha ds hds W => by
  have hk : k < 16 := of_decide_eq_true ha
  exact step_wait m c (decide_eq_true (show k < 16 from hk)) Nat.one_pos (credit_oRows 2 c k) (show k + 4 < 64 by omega) ds hds W

theorem ok_wsXZ (c : Dev nD) (t : ℕ) : ActOk m c (.wsXZ t) := fun ha ds hds W => by
  have ht : 10 ≤ t ∧ t < 16 := of_decide_eq_true ha
  exact step_wait m c (decide_eq_true (show t - 10 < 6 by omega)) Nat.one_pos (credit_oRows 1 c t) (show 0 < 64 by decide) ds hds W

theorem ok_wrXZ (c : Dev nD) (t : ℕ) : ActOk m c (.wrXZ t) := fun ha ds hds W => by
  have ht : 10 ≤ t ∧ t < 16 := of_decide_eq_true ha
  exact step_wait m c (decide_eq_true (show t - 10 < 6 by omega)) Nat.one_pos (credit_oRows 3 c t) (show t + 5 < 64 by omega) ds hds W

theorem ok_wsZX (c : Dev nD) (t : ℕ) : ActOk m c (.wsZX t) := fun ha ds hds W => by
  have ht : 5 ≤ t ∧ t < 10 := of_decide_eq_true ha
  exact step_wait m c (decide_eq_true (show t - 5 < 5 by omega)) Nat.one_pos (credit_oRows 2 c t) (show 0 < 64 by decide) ds hds W

theorem ok_wrZX (c : Dev nD) (t : ℕ) : ActOk m c (.wrZX t) := fun ha ds hds W => by
  have ht : 5 ≤ t ∧ t < 10 := of_decide_eq_true ha
  exact step_wait m c (decide_eq_true (show t - 5 < 5 by omega)) Nat.one_pos (credit_oRows 3 c t) (show t + 5 < 64 by omega) ds hds W

/-- Every operation needs what `need` lists, pays what `pays` lists and gives what `gets` lists. -/
theorem step_act (c : Dev nD) : ∀ a : Act, ActOk m c a
  | .sig k => ok_sig m c k
  | .bar => ok_bar m c
  | .stY k => ok_stY m c k
  | .stL k => ok_stL m c k
  | .stO k => ok_stO m c k
  | .stX k => ok_stX m c k
  | .stZ k => ok_stZ m c k
  | .stXZ k => ok_stXZ m c k
  | .stZX k => ok_stZX m c k
  | .add k => ok_add m c k
  | .wtO k => ok_wtO m c k
  | .wsY k => ok_wsY m c k
  | .wrY k => ok_wrY m c k
  | .wtL k => ok_wtL m c k
  | .wsX k => ok_wsX m c k
  | .wsZ k => ok_wsZ m c k
  | .wrX k => ok_wrX m c k
  | .wrZ k => ok_wrZ m c k
  | .wsXZ k => ok_wsXZ m c k
  | .wrXZ k => ok_wrXZ m c k
  | .wsZX k => ok_wsZX m c k
  | .wrZX k => ok_wrZX m c k

end Cert.Allreduce

end
-- ==== Proof.Run.lean ====
/-
The body from its first operation to its last.

`run` follows the operations with the list of what the device holds and the list of what it owes; that it goes
through from `start` is a computation, and `run_sound` turns it into the proof of the body.
-/
module

public import proofs.«01_k».proof.Proof.Acts

@[expose] public section

noncomputable section

namespace Cert.Allreduce

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig ℕ (Elt F) ℕ UU ℕ

variable (m : (ℓ : Loc nD τ sig) → Buf (Elt F) ℓ)

/-! ## The computation -/

/-- A list without one of its entries. -/
def takeOne (a : Res) : List Res → Option (List Res)
  | [] => none
  | b :: l => if a = b then some l else (takeOne a l).map (b :: ·)

/-- A list without the entries of another. -/
def takeAll : List Res → List Res → Option (List Res)
  | [], l => some l
  | a :: n, l => (takeOne a l).bind (takeAll n)

/-- The dues after the next ones are paid. -/
def payDues : List Due → List Due → Option (List Due)
  | [], ds => some ds
  | _ :: _, [] => none
  | d :: n, e :: ds => if d = e then payDues n ds else none

/-- Following the operations: what is held and what is owed at the end. -/
def run : List Act → List Res → List Due → Option (List Res × List Due)
  | [], l, ds => some (l, ds)
  | a :: as', l, ds =>
    if okA a then
      match takeAll (need a) l, payDues (pays a) ds with
      | some l', some ds' =>
        if ds'.all fun d => decide (level a < d.l ∧ d.l < 64) then run as' (gets a ++ l') ds' else none
      | _, _ => none
    else none

/-! ## What it proves -/

theorem takeOne_sound (c : Dev nD) (a : Res) : ∀ (l l' : List Res), takeOne a l = some l' → resL m c l ⊢ iprop(res m c a ∗ resL m c l')
  | [], l', h => by cases h
  | b :: l, l', h => by
    unfold takeOne at h
    by_cases e : a = b
    · rw [if_pos e] at h
      cases h
      rw [e]
      exact .rfl
    · rw [if_neg e] at h
      obtain ⟨l₁, h₁, rfl⟩ := Option.map_eq_some_iff.mp h
      have ih := takeOne_sound c a l l₁ h₁
      show iprop(res m c b ∗ resL m c l) ⊢ iprop(res m c a ∗ res m c b ∗ resL m c l₁)
      iintro ⟨Hb, H⟩
      ihave H' := ih $$ H
      icases H' with ⟨Ha, H⟩
      isplitl [Ha]; · iexact Ha
      isplitl [Hb] <;> iassumption

theorem takeAll_sound (c : Dev nD) : ∀ (n l l' : List Res), takeAll n l = some l' → resL m c l ⊢ iprop(resL m c n ∗ resL m c l')
  | [], l, l', h => by
    cases h
    iintro H
    isplitr
    · unfold resL; iempintro
    iexact H
  | a :: n, l, l', h => by
    obtain ⟨l₁, h₁, h₂⟩ := Option.bind_eq_some_iff.mp h
    have h1 := takeOne_sound m c a l l₁ h₁
    have h2 := takeAll_sound c n l₁ l' h₂
    show resL m c l ⊢ iprop((res m c a ∗ resL m c n) ∗ resL m c l')
    iintro H
    ihave H := h1 $$ H
    icases H with ⟨Ha, H⟩
    ihave H := h2 $$ H
    icases H with ⟨Hn, H⟩
    isplitr [H]
    · isplitl [Ha] <;> iassumption
    iexact H

theorem payDues_sound : ∀ (n ds ds' : List Due), payDues n ds = some ds' → ds = n ++ ds'
  | [], ds, ds', h => by cases h; rfl
  | d :: n, [], ds', h => by cases h
  | d :: n, e :: ds, ds', h => by
    unfold payDues at h
    by_cases x : d = e
    · rw [if_pos x] at h
      rw [x, payDues_sound n ds ds' h]; rfl
    · rw [if_neg x] at h; cases h

/-- Whatever `run` computes, the operations do. -/
theorem run_sound (c : Dev nD) (e : KProg F) (Q : PUnit → sProp 𝕄) :
    ∀ (l : List Act) (rs : List Res) (ds : List Due) (rs' : List Res) (ds' : List Due) (W : Waits sig ℕ),
      run l rs ds = some (rs', ds') →
      iprop(Ctx m ∗ resL m c rs ∗ owes (c : Thread nD τ) (owed c ds) W)
        ⊢ iprop(((resL m c rs' ∗ ∃ W', owes (c : Thread nD τ) (owed c ds') W')
            -∗ wp frame (wpE (defs₀ (F := F)) 𝒱₀ (c : Thread nD τ) none) Set.univ e Q)
          -∗ wp frame (wpE (defs₀ (F := F)) 𝒱₀ (c : Thread nD τ) none) Set.univ (progTo c e l) Q)
  | [], rs, ds, rs', ds', W, h => by
    cases h
    iintro ⟨-, H, HO⟩ Hk
    iapply Hk
    isplitl [H]; · iexact H
    iexists W; iexact HO
  | a :: l, rs, ds, rs', ds', W, h => by
    unfold run at h
    by_cases ha : okA a = true
    swap; · rw [if_neg ha] at h; cases h
    rw [if_pos ha] at h
    cases ht : takeAll (need a) rs with
    | none => rw [ht] at h; cases h
    | some l' =>
      cases hd : payDues (pays a) ds with
      | none => rw [ht, hd] at h; cases h
      | some ds₁ =>
        rw [ht, hd] at h
        dsimp only at h
        by_cases hl : (ds₁.all fun d => decide (level a < d.l ∧ d.l < 64)) = true
        swap; · rw [if_neg hl] at h; cases h
        rw [if_pos hl] at h
        have hds : ∀ d ∈ ds₁, level a < d.l ∧ d.l < 64 := fun d hd => of_decide_eq_true (List.all_eq_true.mp hl d hd)
        have hS := step_act m c a ha ds₁ hds W (fun _ => progTo c e l) Q
        rw [← payDues_sound _ _ _ hd] at hS
        have h1 := takeAll_sound m c _ _ _ ht
        have hj := resL_join m c (gets a) l'
        have ih := fun W' => run_sound c e Q l (gets a ++ l') ds₁ rs' ds' W' h
        show _ ⊢ iprop(_ -∗ wp frame _ Set.univ ((actProg c a).bind fun _ => progTo c e l) Q)
        iintro ⟨#HC, H, HO⟩ Hk
        ihave H := h1 $$ H
        icases H with ⟨Hn, H⟩
        iapply hS $$ [Hn HO]
        · isplitr; · iexact HC
          isplitl [Hn] <;> iassumption
        iintro ⟨Hg, %W', HO⟩
        iapply (ih W') $$ [Hg H HO]
        · isplitr; · iexact HC
          isplitr [HO]
          · iapply hj
            isplitl [Hg] <;> iassumption
          iexact HO
        iexact Hk

/-! ## The body's ends -/

/-- Chunks of the exchange across y. -/
abbrev chunks : List ℕ := List.range 21
/-- Blocks of a quarter. -/
abbrev blocks : List ℕ := List.range 16
/-- Blocks passed on from z to x, and from x to z. -/
abbrev zx : List ℕ := List.range' 5 5
/-- See `zx`. -/
abbrev xz : List ℕ := List.range' 10 6

/-- Every cell. -/
def cells : List Cell := (List.range 81).map fun i => if i < 80 then famOf i else .bar

/-- What a device owes at first, in the order it pays. -/
def dues : List Due := acts.flatMap pays

/-- Which neighbour pays a duty of a cell. -/
def payer : Cell → ℕ → ℕ
  | .bar, d => d
  | .dma .yR _, _ => 1
  | .dma .xin _, _ | .dma .xr _, _ => 2
  | .dma .zin _, _ | .dma .zr _, _ => 3
  | _, _ => 0

/-- A cell's duties, round by round. -/
def dutyList (x : Cell) : List (ℕ × ℕ) :=
  (List.range (nRounds x)).flatMap fun r => (if x = .bar then [1, 2, 3] else [0]).map (Prod.mk r)

/-- Every cell's duties. -/
def duties : List (Cell × ℕ × ℕ) := cells.flatMap fun x => (dutyList x).map (Prod.mk x)

/-- The rights to pay that a device has. -/
def startToks : List Res := duties.map fun t => .tok (payer t.1 t.2.2) t.1 t.2.1 t.2.2

/-- The rights to wait that the neighbours' dues bring. -/
def startCreds : List Res := .cred .bar 1 :: (dues.filter fun d => d.x ≠ .bar).map fun d => .cred d.x d.l

/-- The input: both shares of every chunk's rows. -/
def inputs : List Res := chunks.flatMap fun k => [.mem 0 (.xsh 0 (yQ k) (yK k)), .mem 0 (.xsh 1 (yQ k) (yK k))]

/-- The slots. -/
def slots : List Res := (List.range 6).map (fun j => .mem 0 (.slAny j)) ++ (List.range 4).map (fun j => .mem 0 (.xsAny j))

/-- All rows of the result, by quarter and block. -/
def rows : List (ℕ × ℕ) := (List.range 4).flatMap fun w => blocks.map (Prod.mk w)

/-- What a device holds at first, -/
def start : List Res :=
  startCreds ++ (cells.map (fun x => .pos x 0) ++ (slots ++ (inputs ++ (startToks ++ rows.map fun q => .mem 0 (.oAny q.1 q.2)))))

/-- and at last. -/
def ends : List Res :=
  cells.map (fun x => .pos x (nRounds x)) ++ (slots ++ (inputs ++ rows.map fun q => .mem 0 (.oS q.1 q.2)))

/-- Whether the operations lead from `start` to `ends`, with every due paid. -/
def runsThrough : Bool :=
  match run acts start dues with
  | some (l, []) => (takeAll ends l).isSome
  | _ => false

end Cert.Allreduce

end
-- ==== Proof.Through.lean ====
/-
The operations lead from what a device holds at first to what it holds at last.
-/
module

public import proofs.«01_k».proof.Proof.Run

@[expose] public section

noncomputable section

namespace Cert.Allreduce

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig ℕ (Elt F) ℕ UU ℕ

variable (m : (ℓ : Loc nD τ sig) → Buf (Elt F) ℓ)

theorem runs_through : runsThrough = true := by decide +kernel

/-- The operations, from `start` to `ends`. -/
theorem acts_spec (c : Dev nD) (e : KProg F) (Q : PUnit → sProp 𝕄) (W : Waits sig ℕ) :
    iprop(Ctx m ∗ resL m c start ∗ owes (c : Thread nD τ) (owed c dues) W)
      ⊢ iprop(((resL m c ends ∗ ∃ W', owes (c : Thread nD τ) 0 W')
          -∗ wp frame (wpE (defs₀ (F := F)) 𝒱₀ (c : Thread nD τ) none) Set.univ e Q)
        -∗ wp frame (wpE (defs₀ (F := F)) 𝒱₀ (c : Thread nD τ) none) Set.univ (progTo c e acts) Q) := by
  have h := runs_through
  unfold runsThrough at h
  generalize hr : run acts start dues = o at h
  match o, h with
  | some (l, []), h =>
    obtain ⟨l', ht⟩ := Option.isSome_iff_exists.mp h
    have h1 := run_sound m c e Q acts start dues l [] W hr
    have h2 := takeAll_sound m c ends l l' ht
    iintro H Hk
    iapply h1 $$ H
    iintro ⟨H, HO⟩
    iapply Hk
    isplitl [H]
    · ihave H := h2 $$ H
      icases H with ⟨H, -⟩
      iexact H
    iexact HO

end Cert.Allreduce

end
-- ==== Proof.Fund.lean ====
/-
What the devices know and hold when the kernel starts, apart from memory: every semaphore follows the schedule, the
right to pay each duty lies with the device that pays it, and the right to wait with the device that waits.
-/
module

public import proofs.«01_k».proof.Proof.Run
public import Idealize.ShloMosaic.Lib.Pipeline.CollectiveSegs
public import Idealize.ShloMosaic.Lib.Pipeline.BigSepL

@[expose] public section

noncomputable section

namespace Cert.Allreduce

open Cert.KernelIdeal Cert.KernelIdeal.Gen
open Idealize.ShloMosaic Idealize.ShloMosaic.TcCoe
open Idealize.SL Idealize.SL.RA Idealize.SL.BI
open scoped Idealize.SL.BI
open scoped Idealize.SL.RA
open Idealize.SL.BI.BIBase Idealize.SL.BI.Laws Idealize.SL.ProofMode Idealize.SL.Sem
open Idealize.ShloMosaic.Rounds
open Idealize.ShloMosaic.Pipeline (Dat Cfg Window BodyObligation cellOf)
open Idealize.ShloMosaic.SiteBlocks (L lv)
open Idealize.ShloMosaic.TalkSites (tallyL tallyL_pos)

variable {F : FTy → Type} [FloatOps F]

local notation "𝕄" => MT nD τ sig ℕ (Elt F) ℕ UU ℕ

variable (m : (ℓ : Loc nD τ sig) → Buf (Elt F) ℓ)

/-! ## Lists -/

/-- Holding a list is holding its entries. -/
theorem resL_eq (c : Dev nD) (l : List Res) : resL m c l = bigSepL l (res m c) := by
  induction l with
  | nil => rfl
  | cons a l ih => rw [bigSepL_cons, ← ih]; rfl

/-- The places of a list, one after the other, are its entries. -/
theorem bigSep_places {M : Type} [URA M] {I : Type} (l : List I) (Φ : I → sProp M) :
    bigSep Finset.univ (fun j : Fin l.length => Φ (l.get j)) = bigSepL l Φ := by
  rw [bigSep_univ_eq_bigSepL (List.finRange l.length) (by ext; simp) (List.nodup_finRange _),
    ← bigSepL_map l.get (List.finRange l.length) Φ,
    show (List.finRange l.length).map l.get = l from List.ext_getElem (by simp) (by simp)]

/-- A list held on each of many devices is, entry by entry, that entry held on each. -/
theorem bigSep_bigSepL {M : Type} [URA M] {I J : Type} [DecidableEq J] (S : Finset J) (l : List I) (Φ : J → I → sProp M) :
    bigSep S (fun c => bigSepL l (Φ c)) = bigSepL l fun i => bigSep S fun c => Φ c i := by
  induction l with
  | nil =>
    show bigSep S (fun _ => (BI.emp : sProp M)) = BI.emp
    induction S using Finset.induction_on with
    | empty => exact bigSep_empty
    | insert c S hc ih => rw [bigSep_insert hc, ih]; exact equiv_iff.mp sep_emp
  | cons i l ih =>
    rw [bigSepL_cons, ← ih]
    refine Eq.trans (bigSep_congr fun c _ => bigSepL_cons i l (Φ c)) ?_
    exact bigSep_sep' S _ _

/-- A persistent fact goes to every member. -/
theorem bigSep_beside {M : Type} [URA M] {I : Type} [DecidableEq I] {S : Finset I} {R : sProp M} [BI.Persistent R] (Φ : I → sProp M) :
    iprop(R ∗ bigSep S Φ) ⊢ bigSep S fun i => iprop(R ∗ Φ i) :=
  (sep_mono_left (BI.bigSep_of_persistent S R)).trans (by rw [← bigSep_sep'])

/-! ## The cells -/

theorem ok_cellAt : ∀ i : Fin 81, okC (cellAt i) = true := by decide +kernel
theorem cellNo_cellAt : ∀ i : Fin 81, cellNo (cellAt i) = i := by decide +kernel

/-- Cells of different devices, and different cells of a device, are different semaphores. -/
theorem kc_inj {c c' : Dev nD} {x x' : Cell} (hx : okC x = true) (hx' : okC x' = true) (h : kc c x = kc c' x') : c = c' ∧ x = x' := by
  have h1 : c = c' := congrArg (fun g : GSem nD τ sig => g.1.1) h
  have h2 : csem x = csem x' := congrArg Prod.snd h
  exact ⟨h1, by rw [← decode_csem hx, h2, decode_csem hx']⟩

/-- All the cells. -/
def cellsF : Finset (GSem nD τ sig) :=
  Finset.univ.map ⟨fun cx : Dev nD × Fin 81 => kc cx.1 (cellAt cx.2), fun a b h => by
    obtain ⟨h1, h2⟩ := kc_inj (ok_cellAt a.2) (ok_cellAt b.2) h
    exact Prod.ext h1 (by rw [← cellNo_cellAt a.2, h2, cellNo_cellAt])⟩

theorem duties_ok : ∀ t ∈ duties, okC t.1 = true := by
  have h : (duties.all fun t => okC t.1) = true := by decide +kernel
  exact fun t ht => List.all_eq_true.mp h t ht

theorem duties_nodup : duties.Nodup := by decide +kernel

/-- All the duties. -/
def toksF : Finset (GSem nD τ sig × ℕ × ℕ) :=
  Finset.univ.map ⟨fun cj : Dev nD × Fin duties.length =>
      (kc cj.1 (duties.get cj.2).1, (duties.get cj.2).2.1, (duties.get cj.2).2.2), fun a b h => by
    obtain ⟨h1, h2⟩ := kc_inj (duties_ok _ (List.get_mem _ _)) (duties_ok _ (List.get_mem _ _)) (congrArg Prod.fst h)
    refine Prod.ext h1 ?_
    have h3 : (duties.get a.2).2 = (duties.get b.2).2 := congrArg (fun y : GSem nD τ sig × ℕ × ℕ => y.2) h
    have e : duties.get a.2 = duties.get b.2 := Prod.ext h2 h3
    exact (List.nodup_iff_injective_get.mp duties_nodup) e⟩

theorem cells_eq : cells = (List.finRange 81).map cellAt := by decide +kernel
theorem cells_split : cells = (List.finRange 80).map (fun i => famOf i.val) ++ [.bar] := by decide +kernel
theorem csem_famOf : ∀ i : Fin 80, csem (famOf i.val) = .dma i := by decide +kernel

theorem bigSep_cells {M : Type} [URA M] (Φ : Cell → sProp M) :
    bigSep Finset.univ (fun i : Fin 81 => Φ (cellAt i)) = bigSepL cells Φ := by
  rw [cells_eq, bigSepL_map, bigSep_univ_eq_bigSepL (List.finRange 81) (by ext; simp) (List.nodup_finRange _)]

/-! ## What the launch deals -/

/-- Where the resources of the rounds start. -/
def u₀ : UU :=
  (initOf (Pipeline.cells cfgs cellOf_inj) (Pipeline.launchToks cfgs cellOf_inj), initOf cellsF toksF)

/-- The rights to pay the duties of device `c`'s own cells. -/
def ownToks (c : Dev nD) : sProp 𝕄 := bigSepL duties fun t => dutyTok ER (kc c t.1) t.2.1 t.2.2

/-- What is dealt to device `c` first, cell by cell. -/
def G (c : Dev nD) : sProp 𝕄 :=
  iprop((bigSep Finset.univ fun i : Fin 81 => roundState ER (Rd m) (kc c (cellAt i)) 0)
    ∗ (bigSep Finset.univ fun i : Fin 81 => reached ER (kc c (cellAt i)) 0)
    ∗ (bigSep Finset.univ fun i : Fin 81 => atPos ER (kc c (cellAt i)) 0 ∅ 0) ∗ ownToks c)

/-- That every cell follows the schedule and has begun. -/
def Known : sProp 𝕄 :=
  bigSep Finset.univ fun cx : Dev nD × Fin 81 =>
    iprop((∃ κ : ℕ, cellInv ER (Rd m) κ (kc cx.1 (cellAt cx.2))) ∗ reached ER (kc cx.1 (cellAt cx.2)) 0)

instance Known_persistent : BI.Persistent (Known m) := by unfold Known; infer_instance

/-- What device `c` then has: what all know, its places in its cells, and the rights to pay the duties it pays. -/
def G' (c : Dev nD) : sProp 𝕄 :=
  iprop(Known m ∗ resL m c (cells.map fun x => .pos x 0) ∗ resL m c startToks)

theorem fund_all : BI.own (ER (initOf cellsF toksF)) ⊢ (|==> bigSep Finset.univ (G m) : sProp 𝕄) := by
  have hX (Φ : GSem nD τ sig → sProp 𝕄) :
      bigSep cellsF Φ = bigSep Finset.univ fun c : Dev nD => bigSep Finset.univ fun i : Fin 81 => Φ (kc c (cellAt i)) := by
    unfold cellsF; rw [bigSep_map, bigSep_univ_prod]; rfl
  have hT : bigSep toksF (fun x => (dutyTok ER x.1 x.2.1 x.2.2 : sProp 𝕄)) = bigSep Finset.univ fun c : Dev nD => ownToks c := by
    unfold toksF; rw [bigSep_map, bigSep_univ_prod]
    exact bigSep_congr fun c _ => bigSep_places duties fun t => (dutyTok ER (kc c t.1) t.2.1 t.2.2 : sProp 𝕄)
  iintro HX
  imod (Rounds.fund ER (Rd m) cellsF toksF) $$ HX with ⟨Hst, Hr, Hat, Htok⟩
  imodintro
  ihave Hst' := (Entails.of_eq (hX fun g => roundState ER (Rd m) g 0)) $$ Hst
  ihave Hr' := (Entails.of_eq (hX fun g => reached ER g 0)) $$ Hr
  ihave Hat' := (Entails.of_eq (hX fun g => atPos ER g 0 ∅ 0)) $$ Hat
  ihave Htok' := (Entails.of_eq hT) $$ Htok
  unfold G; simp only [bigSep_sep']
  isplitl [Hst']; · iexact Hst'
  isplitl [Hr']; · iexact Hr'
  isplitl [Hat']; · iexact Hat'
  iexact Htok'

/-! ## The semaphores -/

/-- The transfer semaphores are the kernel's own. -/
abbrev osem : Fin 80 → SemLoc sig := fun i => .dma i

theorem ownSems0_list (c : Dev nD) :
    (Pipeline.ownSems0 (Ix := ℕ) (Name := ℕ) (U := UU) (Lvl := ℕ) (Val := Elt F) (τ := τ) osem c : sProp 𝕄)
      = bigSepL (List.finRange 80) fun i => semVal ((c : Thread nD τ), osem i) 0 :=
  Pipeline.ownSems0_eq_of_list c osem (List.finRange 80) (by ext; simp) (List.nodup_finRange _)

theorem unscopedSems0_bar (c : Dev nD) : (unscopedSems0 c : sProp 𝕄) = semVal (kc c .bar) 0 := by
  unfold unscopedSems0; rw [bigSep_eq_bigSepL_of_eq [SemLoc.reg barS] (by decide) (by decide)]; rfl

/-- All cells of a device at zero: its own semaphores and the barrier. -/
theorem sems_cells (c : Dev nD) :
    (bigSepL cells fun x => (semVal (kc c x) 0 : sProp 𝕄))
      = iprop(Pipeline.ownSems0 (Ix := ℕ) (Name := ℕ) (U := UU) (Lvl := ℕ) (Val := Elt F) (τ := τ) osem c ∗ unscopedSems0 c) := by
  rw [cells_split, bigSepL_append, bigSepL_map, ownSems0_list, unscopedSems0_bar]
  have h : (fun i : Fin 80 => (semVal (kc c (famOf i.val)) 0 : sProp 𝕄)) = fun i => semVal ((c : Thread nD τ), osem i) 0 :=
    funext fun i => by
      show semVal ((c : Thread nD τ), csem (famOf i.val)) 0 = _
      rw [csem_famOf i]
  rw [h]; rfl

theorem core_alloc (c : Dev nD) :
    iprop(Pipeline.ownSems0 (Ix := ℕ) (Name := ℕ) (U := UU) (Lvl := ℕ) (Val := Elt F) (τ := τ) osem c ∗ unscopedSems0 c ∗ G m c)
      ⊢ |={Set.univ}=> iprop((bigSep Finset.univ fun i : Fin 81 =>
            iprop((∃ κ : ℕ, cellInv ER (Rd m) κ (kc c (cellAt i))) ∗ reached ER (kc c (cellAt i)) 0))
          ∗ resL m c (cells.map fun x => .pos x 0) ∗ ownToks c) := by
  unfold G
  iintro ⟨Hos, Hus, Hst, Hr, Hat, Htok⟩
  ihave Hv := (Entails.of_eq (sems_cells (F := F) c).symm) $$ [Hos Hus]
  · isplitl [Hos] <;> iassumption
  ihave Hv := (Entails.of_eq (bigSep_cells fun x => (semVal (kc c x) 0 : sProp 𝕄)).symm) $$ Hv
  imod (show iprop((bigSep Finset.univ fun i : Fin 81 => semVal (kc c (cellAt i)) 0) ∗ bigSep Finset.univ fun i : Fin 81 => roundState ER (Rd m) (kc c (cellAt i)) 0)
      ⊢ (|={Set.univ}=> bigSep Finset.univ fun i : Fin 81 => iprop(∃ κ : ℕ, cellInv ER (Rd m) κ (kc c (cellAt i))) : sProp 𝕄) from by
        rw [← bigSep_sep']
        exact (bigSep_mono fun i _ => (Rounds.body_intro ER (Rd m) (kc c (cellAt i))).trans inv_alloc).trans (bigSep_fupd _ _)) $$ [Hv Hst] with Hinv
  · isplitl [Hv] <;> iassumption
  imodintro
  isplitl [Hinv Hr]
  · rw [bigSep_sep']
    isplitl [Hinv]; · iexact Hinv
    iexact Hr
  isplitl [Hat]
  · rw [resL_eq, bigSepL_map]
    ihave Hat := (Entails.of_eq (bigSep_cells fun x => (atPos ER (kc c x) 0 ∅ 0 : sProp 𝕄))) $$ Hat
    iexact Hat
  iexact Htok

/-- The rights to pay, each handed from the device whose cell it is to the device that pays. -/
theorem toks_dealt : (bigSep Finset.univ fun c : Dev nD => (ownToks c : sProp 𝕄)) = bigSep Finset.univ fun c : Dev nD => resL m c startToks := by
  have h (c : Dev nD) : resL m c startToks
      = bigSepL duties fun t => (dutyTok ER (kc (peer (payer t.1 t.2.2) c) t.1) t.2.1 t.2.2 : sProp 𝕄) := by
    rw [resL_eq]; unfold startToks; rw [bigSepL_map]; rfl
  rw [bigSep_congr fun c _ => h c]
  unfold ownToks
  rw [bigSep_bigSepL, bigSep_bigSepL]
  congr 1
  funext t
  exact bigSep_univ_equiv (peerE (payer t.1 t.2.2)) fun c : Dev nD => (dutyTok ER (kc c t.1) t.2.1 t.2.2 : sProp 𝕄)

theorem regroup :
    (bigSep Finset.univ fun c : Dev nD => iprop((bigSep Finset.univ fun i : Fin 81 =>
            iprop((∃ κ : ℕ, cellInv ER (Rd m) κ (kc c (cellAt i))) ∗ reached ER (kc c (cellAt i)) 0))
          ∗ resL m c (cells.map fun x => .pos x 0) ∗ ownToks c) : sProp 𝕄)
      ⊢ bigSep Finset.univ (G' m) := by
  rw [bigSep_sep', bigSep_sep', toks_dealt m]
  have hK : (bigSep Finset.univ fun c : Dev nD => bigSep Finset.univ fun i : Fin 81 =>
      iprop((∃ κ : ℕ, cellInv ER (Rd m) κ (kc c (cellAt i))) ∗ reached ER (kc c (cellAt i)) 0)) ⊢ Known m := by
    unfold Known; rw [bigSep_univ_prod]
  iintro ⟨HK, Hp, Ht⟩
  ihave HK := hK $$ HK
  iapply (show iprop(Known m ∗ bigSep Finset.univ fun c : Dev nD => iprop(resL m c (cells.map fun x => .pos x 0) ∗ resL m c startToks))
    ⊢ bigSep Finset.univ (G' m) from bigSep_beside _)
  isplitl [HK]; · iexact HK
  rw [bigSep_sep']
  isplitl [Hp]; · iexact Hp
  iexact Ht

/-- All devices together: from every semaphore at zero to what each device starts with. -/
theorem glob : (bigSep Finset.univ fun c => iprop(Pipeline.ownSems0 (Ix := ℕ) (Name := ℕ) (U := UU) (Lvl := ℕ) (Val := Elt F) (τ := τ) osem c ∗ unscopedSems0 c ∗ G m c) : sProp 𝕄)
    ⊢ |={Set.univ}=> bigSep Finset.univ (G' m) :=
  ((bigSep_mono fun c _ => core_alloc m c).trans (bigSep_fupd _ _)).trans (BI.fupd_mono (regroup m))

/-! ## The right to wait -/

/-- What device `c`'s waits take, due by due. -/
def dueHere (c : Dev nD) (ds : List Due) : CellTallies nD τ sig ℕ :=
  tallyL (ds.map fun d => (kc c d.x, d.l, amt d.x))

/-- Over all devices, what is owed is what the waits take. -/
theorem sum_owed (ds : List Due) : (∑ c : Dev nD, owed c ds) = ∑ c : Dev nD, dueHere c ds := by
  induction ds with
  | nil => rfl
  | cons d ds ih =>
    have h1 (c : Dev nD) : owed c (d :: ds) = tallyAt (kc (peer d.p c) d.x) d.l (amt d.x) + owed c ds := rfl
    have h2 (c : Dev nD) : dueHere c (d :: ds) = tallyAt (kc c d.x) d.l (amt d.x) + dueHere c ds := rfl
    rw [Finset.sum_congr rfl fun c _ => h1 c, Finset.sum_congr rfl fun c _ => h2 c, Finset.sum_add_distrib, Finset.sum_add_distrib, ih]
    congr 1
    exact Equiv.sum_comp (peerE d.p) fun c : Dev nD => (tallyAt (kc c d.x) d.l (amt d.x) : CellTallies nD τ sig ℕ)

/-- The barrier's units in a list of dues. -/
def barUnits (ds : List Due) : ℕ := (ds.filter fun d => d.x = .bar).length

theorem cred_split (c : Dev nD) (ds : List Due) (h : ∀ d ∈ ds, d.x = .bar → d.l = 1) :
    (cred (dueHere c ds) : sProp 𝕄)
      ⊢ iprop(cred (tallyAt (kc c .bar) 1 (barUnits ds)) ∗ resL m c ((ds.filter fun d => d.x ≠ .bar).map fun d => .cred d.x d.l)) := by
  induction ds with
  | nil =>
    show (cred (0 : CellTallies nD τ sig ℕ) : sProp 𝕄) ⊢ iprop(cred (tallyAt (kc c .bar) 1 0) ∗ emp)
    rw [tallyAt_zero]
    iintro H
    isplitl [H]; · iexact H
    iempintro
  | cons d ds ih =>
    have ih' := ih fun e he => h e (List.mem_cons_of_mem _ he)
    have hs : (cred (dueHere c (d :: ds)) : sProp 𝕄) ⊢ iprop(cred (tallyAt (kc c d.x) d.l (amt d.x)) ∗ cred (dueHere c ds)) :=
      (cred_add _ _).1
    refine hs.trans ?_
    by_cases hb : d.x = .bar
    · have e1 : barUnits (d :: ds) = 1 + barUnits ds := by
        unfold barUnits; rw [List.filter_cons_of_pos (by simpa using hb), List.length_cons, Nat.add_comm]
      have e2 : (d :: ds).filter (fun d => d.x ≠ .bar) = ds.filter fun d => d.x ≠ .bar :=
        List.filter_cons_of_neg (by simpa using hb)
      rw [e1, e2, h d List.mem_cons_self hb, hb, ← tallyAt_add]
      iintro ⟨Hd, H⟩
      ihave H' := ih' $$ H
      icases H' with ⟨Hb, Hr⟩
      isplitl [Hd Hb]
      · iapply (show iprop(cred (tallyAt (kc c .bar) 1 1) ∗ cred (tallyAt (kc c .bar) 1 (barUnits ds)))
          ⊢ (cred (tallyAt (kc c .bar) 1 1 + tallyAt (kc c .bar) 1 (barUnits ds)) : sProp 𝕄) from (cred_add _ _).2)
        isplitl [Hd]
        · iexact Hd
        iexact Hb
      iexact Hr
    · have e1 : barUnits (d :: ds) = barUnits ds := by
        unfold barUnits; rw [List.filter_cons_of_neg (by simpa using hb)]
      have e2 : (d :: ds).filter (fun d => d.x ≠ .bar) = d :: ds.filter fun d => d.x ≠ .bar :=
        List.filter_cons_of_pos (by simpa using hb)
      have e3 : amt d.x = credAmt d.x := by unfold amt credAmt; rw [if_neg hb, if_neg hb]
      rw [e1, e2, e3]
      iintro ⟨Hd, H⟩
      ihave H' := ih' $$ H
      icases H' with ⟨Hb, Hr⟩
      isplitl [Hb]; · iexact Hb
      iapply (show iprop(cred (tallyAt (kc c d.x) d.l (credAmt d.x)) ∗ resL m c ((ds.filter fun d => d.x ≠ .bar).map fun d => .cred d.x d.l))
        ⊢ resL m c ((d :: ds.filter fun d => d.x ≠ .bar).map fun d => .cred d.x d.l) from .rfl)
      isplitl [Hd]; · iexact Hd
      iexact Hr

theorem bar_units : barUnits dues = 3 := by decide +kernel
theorem bar_level : ∀ d ∈ dues, d.x = .bar → d.l = 1 := by
  have h : (dues.all fun d => decide (d.x = .bar → d.l = 1)) = true := by decide +kernel
  exact fun d hd => of_decide_eq_true (List.all_eq_true.mp h d hd)

/-- What device `c` owes at the start. -/
abbrev O₀ (c : Dev nD) : CellTallies nD τ sig ℕ := owed c dues

/-- What the launch lends device `c`: its rights to wait. -/
theorem creds (c : Dev nD) : (Pipeline.launchCred O₀ c : sProp 𝕄) ⊢ resL m c startCreds := by
  rw [Pipeline.launchCred_of_sum O₀ (fun c => dueHere c dues) (sum_owed dues) (fun d g hg => by
    obtain ⟨i, hi⟩ := DFunLike.ne_iff.mp hg
    obtain ⟨y, hy, rfl, -⟩ := tallyL_pos (Nat.pos_of_ne_zero hi)
    obtain ⟨e, -, rfl⟩ := List.mem_map.mp hy
    rfl) c]
  refine (cred_split m c dues bar_level).trans ?_
  rw [bar_units]
  exact .rfl

end Cert.Allreduce

end
-- ==== Proof.Memory.lean ====
/-
The arrays and the buffers cut into the pieces the body works on, and put together again.
-/
module

public import proofs.«01_k».proof.Proof.Fund
public import Idealize.ShloMosaic.Lib.Pipeline.TalkSched

@[expose] public section

noncomputable section

namespace Cert.Allreduce

open Cert.KernelIdeal Cert.KernelIdeal.Gen
open Idealize.ShloMosaic Idealize.ShloMosaic.TcCoe
open Idealize.SL Idealize.SL.RA Idealize.SL.BI
open scoped Idealize.SL.BI
open scoped Idealize.SL.RA
open Idealize.SL.BI.BIBase Idealize.SL.BI.Laws Idealize.SL.ProofMode Idealize.SL.Sem

open Idealize.ShloMosaic.Ring (pointsTo_blocks pointsTo_blocks_join_exists)

variable {F : FTy → Type} [FloatOps F]

local notation "𝕄" => MT nD τ sig ℕ (Elt F) ℕ UU ℕ

variable (m : (ℓ : Loc nD τ sig) → Buf (Elt F) ℓ)

/-! ## The blocks of rows -/

/-- A quarter and a block in it. -/
abbrev Place : Type := Fin 4 × Fin 16

/-- A place as a pair of numbers. -/
def Place.nums (t : Place) : ℕ × ℕ := (t.1.val, t.2.val)

def places : List Place := (List.finRange 4).flatMap fun w => (List.finRange 16).map (Prod.mk w)

theorem places_univ : (Finset.univ : Finset Place) = places.toFinset := by decide +kernel
theorem places_nodup : places.Nodup := by decide +kernel
theorem rows_places : rows = places.map Place.nums := by decide +kernel

theorem bigSep_rows {M : Type} [URA M] (Φ : ℕ × ℕ → sProp M) :
    bigSep Finset.univ (fun t : Place => Φ t.nums) = bigSepL rows Φ := by
  rw [rows_places, bigSepL_map, bigSep_univ_eq_bigSepL places places_univ places_nodup]

/-- The rectangle of a block. -/
abbrev rowRect (c : Dev nD) (t : Place) : Rect S32768x1024 :=
  Rect.unit (s := S32768x1024) (rowOff t.1.val c t.2.val) S512x1024.size (rowOff_inb t.1.val c t.2.val)

theorem quarter_inj : ∀ (c : Dev nD) (w w' : Fin 4), quarter w.val c = quarter w'.val c → w = w' := by decide +kernel
theorem quarter_surj : ∀ (c : Dev nD) (q : Fin 4), ∃ w : Fin 4, quarter w.val c = q.val := by decide +kernel

theorem mem_rowRect (c : Dev nD) (t : Place) (i : S32768x1024.Idx) :
    Iff (i ∈ (rowRect c t).set) (8192 * quarter t.1.val c + 512 * t.2.val ≤ (i 0).val ∧ (i 0).val < 8192 * quarter t.1.val c + 512 * t.2.val + 512) := by
  have e := rowOff_eq t.1.val t.1.isLt c t.2.val
  rw [Nat.mod_eq_of_lt t.2.isLt] at e
  rw [Rect.mem_set_unit, e]
  constructor
  · intro h; exact h 0
  · intro h a
    fin_cases a
    · exact h
    · exact ⟨Nat.zero_le _, by have := (i 1).isLt; show (i 1).val < 0 + 1024; rw [Nat.zero_add]; exact this⟩

/-- Different blocks have no row in common, -/
theorem rowRect_disjoint (c : Dev nD) (t t' : Place) (h : t ≠ t') : Disjoint (rowRect c t).set (rowRect c t').set := by
  rw [Finset.disjoint_left]
  intro i hi hi'
  rw [mem_rowRect] at hi hi'
  apply h
  have hk := t.2.isLt
  have hk' := t'.2.isLt
  have hq : quarter t.1.val c = quarter t'.1.val c := by omega
  exact Prod.ext (quarter_inj c _ _ hq) (Fin.ext (by omega))

/-- and together they are all rows. -/
theorem rowRect_cover (c : Dev nD) (i : S32768x1024.Idx) : ∃ t : Place, i ∈ (rowRect c t).set := by
  have hi : (i 0).val < 32768 := (i 0).isLt
  obtain ⟨w, hw⟩ := quarter_surj c ⟨(i 0).val / 8192, by omega⟩
  refine ⟨(w, ⟨(i 0).val % 8192 / 512, by omega⟩), (mem_rowRect c _ i).mpr ?_⟩
  simp only [] at hw ⊢
  omega

theorem rowRect_union (c : Dev nD) : (Finset.univ : Finset Place).biUnion (fun t => (rowRect c t).set) = Finset.univ := by
  ext i
  simp only [Finset.mem_biUnion, Finset.mem_univ, true_and, iff_true]
  exact rowRect_cover c i

/-! ## The input -/

/-- A block of the input, owned whole. -/
def xOwn (c : Dev nD) (q : ℕ × ℕ) : sProp 𝕄 := owns (c : Thread nD τ) (xRows q.1 c q.2) fullShare (xBlk m q.1 q.2 c)

theorem input_blocks (c : Dev nD) :
    (((c : Thread nD τ).loc main_arg0) ↦{fullShare} m ((c : Thread nD τ).loc main_arg0) : sProp 𝕄) = bigSepL rows (xOwn m c) := by
  rw [← bigSep_rows]
  have h := pointsTo_rects (Ix := ℕ) (Name := ℕ) (U := UU) (Lvl := ℕ) (c : Thread nD τ) (Memref.whole main_arg0) fullShare (rowRect c) (fun _ _ => rfl)
    (rowRect_disjoint c) (rowRect_union c) (m ((c : Thread nD τ).loc main_arg0))
  rw [show (Memref.whole main_arg0 : Memref sig .tc _ _ _).view.set = Finset.univ from View.set_whole _] at h
  exact h

/-- The blocks the exchange across y sends, -/
def sentRows : List (ℕ × ℕ) := chunks.map fun k => (yQ k, yK k)
/-- and the others. -/
def otherRows : List (ℕ × ℕ) := rows.filter fun q => q ∉ sentRows

theorem rows_perm : rows.Perm (sentRows ++ otherRows) := by decide +kernel
theorem rows_nodup : rows.Nodup := by decide +kernel

/-- The blocks of the input that stay in place. -/
def spare (c : Dev nD) : sProp 𝕄 := bigSepL otherRows (xOwn m c)

theorem input_cut (c : Dev nD) : (bigSepL rows (xOwn m c) : sProp 𝕄) = iprop(bigSepL sentRows (xOwn m c) ∗ spare m c) := by
  rw [TalkSites.bigSepL_perm rows_perm rows_nodup, bigSepL_append]; rfl

theorem shares_open (c : Dev nD) (l : List ℕ) :
    (bigSepL (l.map fun k => (yQ k, yK k)) (xOwn m c) : sProp 𝕄)
      ⊢ resL m c (l.flatMap fun k => [.mem 0 (.xsh 0 (yQ k) (yK k)), .mem 0 (.xsh 1 (yQ k) (yK k))]) := by
  induction l with
  | nil => exact .rfl
  | cons k l ih =>
    rw [List.map_cons, bigSepL_cons']
    have h : xOwn m c (yQ k, yK k)
        ⊢ iprop(owns (c : Thread nD τ) (xRows (yQ k) c (yK k)) fullShare.left (xBlk m (yQ k) (yK k) c)
          ∗ owns (c : Thread nD τ) (xRows (yQ k) c (yK k)) fullShare.right (xBlk m (yQ k) (yK k) c)) :=
      owns_split_share c _ (PosShare.mem_left_op_right fullShare) _
    iintro ⟨Hx, H⟩
    ihave Hx := h $$ Hx
    icases Hx with ⟨H1, H2⟩
    ihave H := ih $$ H
    iapply (show iprop(owns (c : Thread nD τ) (xRows (yQ k) c (yK k)) fullShare.left (xBlk m (yQ k) (yK k) c)
          ∗ owns (c : Thread nD τ) (xRows (yQ k) c (yK k)) fullShare.right (xBlk m (yQ k) (yK k) c)
          ∗ resL m c (l.flatMap fun k => [.mem 0 (.xsh 0 (yQ k) (yK k)), .mem 0 (.xsh 1 (yQ k) (yK k))]))
        ⊢ resL m c ((k :: l).flatMap fun k => [.mem 0 (.xsh 0 (yQ k) (yK k)), .mem 0 (.xsh 1 (yQ k) (yK k))]) from .rfl)
    isplitl [H1]; · iexact H1
    isplitl [H2]; · iexact H2
    iexact H

theorem shares_close (c : Dev nD) (l : List ℕ) :
    resL m c (l.flatMap fun k => [.mem 0 (.xsh 0 (yQ k) (yK k)), .mem 0 (.xsh 1 (yQ k) (yK k))])
      ⊢ (bigSepL (l.map fun k => (yQ k, yK k)) (xOwn m c) : sProp 𝕄) := by
  induction l with
  | nil => exact .rfl
  | cons k l ih =>
    rw [List.map_cons, bigSepL_cons']
    have h : iprop(owns (c : Thread nD τ) (xRows (yQ k) c (yK k)) fullShare.left (xBlk m (yQ k) (yK k) c)
          ∗ owns (c : Thread nD τ) (xRows (yQ k) c (yK k)) fullShare.right (xBlk m (yQ k) (yK k) c)) ⊢ xOwn m c (yQ k, yK k) :=
      owns_join_share c _ (PosShare.mem_left_op_right fullShare) _
    iintro H
    ihave H := (show resL m c ((k :: l).flatMap fun k => [.mem 0 (.xsh 0 (yQ k) (yK k)), .mem 0 (.xsh 1 (yQ k) (yK k))])
        ⊢ iprop(owns (c : Thread nD τ) (xRows (yQ k) c (yK k)) fullShare.left (xBlk m (yQ k) (yK k) c)
          ∗ owns (c : Thread nD τ) (xRows (yQ k) c (yK k)) fullShare.right (xBlk m (yQ k) (yK k) c)
          ∗ resL m c (l.flatMap fun k => [.mem 0 (.xsh 0 (yQ k) (yK k)), .mem 0 (.xsh 1 (yQ k) (yK k))])) from .rfl) $$ H
    icases H with ⟨H1, H2, H⟩
    isplitl [H1 H2]
    · iapply h
      isplitl [H1] <;> iassumption
    · iapply ih
      iexact H

/-- The input as the body takes it, -/
theorem input_open (c : Dev nD) :
    (((c : Thread nD τ).loc main_arg0) ↦{fullShare} m ((c : Thread nD τ).loc main_arg0) : sProp 𝕄) ⊢ iprop(resL m c inputs ∗ spare m c) := by
  rw [input_blocks, input_cut]
  exact sep_mono_left (shares_open m c chunks)

/-- and whole again, unchanged. -/
theorem input_close (c : Dev nD) :
    iprop(resL m c inputs ∗ spare m c) ⊢ (((c : Thread nD τ).loc main_arg0) ↦{fullShare} m ((c : Thread nD τ).loc main_arg0) : sProp 𝕄) := by
  rw [input_blocks, input_cut]
  exact sep_mono_left (shares_close m c chunks)

/-! ## Pieces at some contents -/

theorem someAt_intro (c : Dev nD) {sp : Space} (r : Memref sig .tc sp S512x1024 .f32) :
    iprop(∃ f : Buf (Elt F) (r.view.loc (c : Thread nD τ)), (r.view.loc (c : Thread nD τ)) ↦[r.view.set]{fullShare} f) ⊢ (someAt c r : sProp 𝕄) := by
  unfold someAt
  iintro ⟨%f, H⟩
  iexists (r.view.read (Elt F) f)
  iapply (owns_intro (Ix := ℕ) (Name := ℕ) (U := UU) (Lvl := ℕ) (c : Thread nD τ) r fullShare f)
  iexact H

theorem someAt_elim (c : Dev nD) {sp : Space} (r : Memref sig .tc sp S512x1024 .f32) :
    (someAt c r : sProp 𝕄) ⊢ iprop(∃ f : Buf (Elt F) (r.view.loc (c : Thread nD τ)), (r.view.loc (c : Thread nD τ)) ↦[r.view.set]{fullShare} f) := by
  unfold someAt owns
  iintro ⟨%v, %f, -, H⟩
  iexists f
  iexact H

/-! ## The result -/

theorem oRows_set (c : Dev nD) (t : Place) : (oRows t.1.val c t.2.val).view.set = (rowRect c t).set := View.set_slice_whole _ _

theorem output_open (c : Dev nD) (f : Buf (Elt F) ((c : Thread nD τ).loc main_v1)) :
    (((c : Thread nD τ).loc main_v1) ↦{fullShare} f : sProp 𝕄) ⊢ resL m c (rows.map fun q => .mem 0 (.oAny q.1 q.2)) := by
  rw [resL_eq, bigSepL_map, ← bigSep_rows,
    pointsTo_blocks (fun t : Place => (rowRect c t).set) (rowRect_disjoint c) (rowRect_union c) f]
  refine bigSep_mono fun t _ => ?_
  have h := someAt_intro (F := F) c (oRows t.1.val c t.2.val)
  rw [oRows_set] at h
  have h1 : (((c : Thread nD τ).loc main_v1) ↦[(rowRect c t).set]{fullShare} f) ⊢ (someAt c (oRows t.1.val c t.2.val) : sProp 𝕄) := by
    iintro H
    iapply h
    iexists f
    iexact H
  exact h1

/-- What the result holds, block by block. -/
def OutOk (c : Dev nD) (g : Buf (Elt F) ((c : Thread nD τ).loc main_v1)) : Prop :=
  ∀ t : Place, (oRows t.1.val c t.2.val).view.read (Elt F) g = oBlk m t.1.val t.2.val c

theorem output_close (c : Dev nD) :
    resL m c (rows.map fun q => .mem 0 (.oS q.1 q.2))
      ⊢ iprop(∃ g : Buf (Elt F) ((c : Thread nD τ).loc main_v1), ⌜OutOk m c g⌝ ∗ (((c : Thread nD τ).loc main_v1) ↦{fullShare} g)) := by
  rw [resL_eq, bigSepL_map, ← bigSep_rows]
  have h0 : (bigSep Finset.univ fun t : Place => res m c (.mem 0 (.oS t.nums.1 t.nums.2)))
      ⊢ bigSep Finset.univ fun t : Place => iprop(∃ f : Buf (Elt F) ((c : Thread nD τ).loc main_v1),
          ⌜(oRows t.1.val c t.2.val).view.read (Elt F) f = oBlk m t.1.val t.2.val c⌝ ∗ (((c : Thread nD τ).loc main_v1) ↦[(rowRect c t).set]{fullShare} f)) :=
    bigSep_mono fun t _ => by
      rw [← oRows_set]
      exact BI.Entails.refl _
  iintro H
  ihave H := h0 $$ H
  ihave H := (bigSep_exists_pi Finset.univ fun (t : Place) (f : Buf (Elt F) ((c : Thread nD τ).loc main_v1)) =>
    (iprop(⌜(oRows t.1.val c t.2.val).view.read (Elt F) f = oBlk m t.1.val t.2.val c⌝ ∗ (((c : Thread nD τ).loc main_v1) ↦[(rowRect c t).set]{fullShare} f)) : sProp 𝕄)) $$ H
  icases H with ⟨%fs, H⟩
  ihave H := (bigSep_pure_sep Finset.univ (fun t : Place => (oRows t.1.val c t.2.val).view.read (Elt F) (fs t) = oBlk m t.1.val t.2.val c)
    fun t => (((c : Thread nD τ).loc main_v1) ↦[(rowRect c t).set]{fullShare} fs t : sProp 𝕄)) $$ H
  icases H with ⟨%hp, H⟩
  ihave H := (pointsTo_biUnion_join Finset.univ (fun t : Place => (rowRect c t).set) fs (fs (0, 0))
    (fun t _ t' _ h => rowRect_disjoint c t t' h)) $$ H
  icases H with ⟨%g, %hg, H⟩
  iexists g
  isplitr
  · ipureintro
    intro t
    rw [← hp t (Finset.mem_univ t)]
    exact View.read_congr fun i hi => hg t (Finset.mem_univ t) i (by rw [← oRows_set]; exact hi)
  · rw [rowRect_union]; iexact H

/-! ## The slots -/

/-- Slots differ only in their first coordinate. -/
theorem rect6_disjoint (j j' : Fin 6) (h : j ≠ j') : Disjoint (rect6 j.val).set (rect6 j'.val).set := by
  rw [Finset.disjoint_left]
  intro i hi hi'
  have h1 := (Rect.mem_set_unit.mp hi) 0
  have h2 := (Rect.mem_set_unit.mp hi') 0
  have h1' : j.val % 6 ≤ (i 0).val ∧ (i 0).val < j.val % 6 + 1 := h1
  have h2' : j'.val % 6 ≤ (i 0).val ∧ (i 0).val < j'.val % 6 + 1 := h2
  exact h (Fin.ext (by have := j.isLt; have := j'.isLt; omega))

theorem rect6_union : (Finset.univ : Finset (Fin 6)).biUnion (fun j => (rect6 j.val).set) = Finset.univ := by
  ext i
  simp only [Finset.mem_biUnion, Finset.mem_univ, true_and, iff_true]
  have hi : (i 0).val < 6 := (i 0).isLt
  refine ⟨⟨(i 0).val, hi⟩, Rect.mem_set_unit.mpr fun a => ?_⟩
  fin_cases a
  · show (i 0).val % 6 ≤ (i 0).val ∧ (i 0).val < (i 0).val % 6 + 1
    rw [Nat.mod_eq_of_lt hi]; omega
  · exact ⟨Nat.zero_le _, by have : (i 1).val < 512 := (i 1).isLt; show (i 1).val < 0 + 512; omega⟩
  · exact ⟨Nat.zero_le _, by have : (i 2).val < 1024 := (i 2).isLt; show (i 2).val < 0 + 1024; omega⟩

theorem rect4_disjoint (j j' : Fin 4) (h : j ≠ j') : Disjoint (rect4 j.val).set (rect4 j'.val).set := by
  rw [Finset.disjoint_left]
  intro i hi hi'
  have h1 := (Rect.mem_set_unit.mp hi) 0
  have h2 := (Rect.mem_set_unit.mp hi') 0
  have h1' : j.val % 4 ≤ (i 0).val ∧ (i 0).val < j.val % 4 + 1 := h1
  have h2' : j'.val % 4 ≤ (i 0).val ∧ (i 0).val < j'.val % 4 + 1 := h2
  exact h (Fin.ext (by have := j.isLt; have := j'.isLt; omega))

theorem rect4_union : (Finset.univ : Finset (Fin 4)).biUnion (fun j => (rect4 j.val).set) = Finset.univ := by
  ext i
  simp only [Finset.mem_biUnion, Finset.mem_univ, true_and, iff_true]
  have hi : (i 0).val < 4 := (i 0).isLt
  refine ⟨⟨(i 0).val, hi⟩, Rect.mem_set_unit.mpr fun a => ?_⟩
  fin_cases a
  · show (i 0).val % 4 ≤ (i 0).val ∧ (i 0).val < (i 0).val % 4 + 1
    rw [Nat.mod_eq_of_lt hi]; omega
  · exact ⟨Nat.zero_le _, by have : (i 1).val < 512 := (i 1).isLt; show (i 1).val < 0 + 512; omega⟩
  · exact ⟨Nat.zero_le _, by have : (i 2).val < 1024 := (i 2).isLt; show (i 2).val < 0 + 1024; omega⟩

theorem slotL_rect (k : ℕ) : (slotL k).view.set = (rect6 k).set := (slotL_set k).trans (View.set_slice_whole _ _)
theorem slotX_rect (k : ℕ) : (slotX k).view.set = (rect4 k).set := (slotX_set k).trans (View.set_slice_whole _ _)

/-- The landing buffer is its slots, at some contents, -/
theorem slotsL (c : Dev nD) :
    (iprop(∃ f : Buf (Elt F) ((c : Thread nD τ).loc cc0_scratch0), ((c : Thread nD τ).loc cc0_scratch0) ↦{fullShare} f) : sProp 𝕄)
      ⊣⊢ resL m c ((List.range 6).map fun j => .mem 0 (.slAny j)) := by
  have hl : resL m c ((List.range 6).map fun j => .mem 0 (.slAny j)) = bigSep Finset.univ fun j : Fin 6 => (someAt c (slotL j.val) : sProp 𝕄) := by
    rw [resL_eq, bigSepL_map, show List.range 6 = (List.finRange 6).map Fin.val from by decide, bigSepL_map,
      bigSep_univ_eq_bigSepL (List.finRange 6) (by ext; simp) (List.nodup_finRange _)]
    rfl
  rw [hl]
  constructor
  · iintro ⟨%f, H⟩
    ihave H := (Entails.of_eq (pointsTo_blocks (fun j : Fin 6 => (rect6 j.val).set) rect6_disjoint rect6_union f)) $$ H
    have h1 (j : Fin 6) : (((c : Thread nD τ).loc cc0_scratch0) ↦[(rect6 j.val).set]{fullShare} f) ⊢ (someAt c (slotL j.val) : sProp 𝕄) := by
      have h := someAt_intro (F := F) c (slotL j.val)
      rw [slotL_rect] at h
      iintro H
      iapply h
      iexists f
      iexact H
    iapply (show (bigSep Finset.univ fun j : Fin 6 => ((c : Thread nD τ).loc cc0_scratch0) ↦[(rect6 j.val).set]{fullShare} f)
      ⊢ bigSep Finset.univ fun j : Fin 6 => (someAt c (slotL j.val) : sProp 𝕄) from bigSep_mono fun j _ => h1 j)
    iexact H
  · refine (bigSep_mono (fun (j : Fin 6) _ => show (someAt c (slotL j.val) : sProp 𝕄)
        ⊢ iprop(∃ f : Buf (Elt F) ((c : Thread nD τ).loc cc0_scratch0), ((c : Thread nD τ).loc cc0_scratch0) ↦[(rect6 j.val).set]{fullShare} f) from by
      have h := someAt_elim (F := F) c (slotL j.val)
      rw [slotL_rect] at h
      exact h)).trans ?_
    exact pointsTo_blocks_join_exists (ℓ := (c : Thread nD τ).loc cc0_scratch0) (I := fun j : Fin 6 => (rect6 j.val).set) (hd := rect6_disjoint)
      (hc := rect6_union) (f₀ := m ((c : Thread nD τ).loc cc0_scratch0))

/-- and the local buffer is its slots. -/
theorem slotsX (c : Dev nD) :
    (iprop(∃ f : Buf (Elt F) ((c : Thread nD τ).loc cc0_scratch1), ((c : Thread nD τ).loc cc0_scratch1) ↦{fullShare} f) : sProp 𝕄)
      ⊣⊢ resL m c ((List.range 4).map fun j => .mem 0 (.xsAny j)) := by
  have hl : resL m c ((List.range 4).map fun j => .mem 0 (.xsAny j)) = bigSep Finset.univ fun j : Fin 4 => (someAt c (slotX j.val) : sProp 𝕄) := by
    rw [resL_eq, bigSepL_map, show List.range 4 = (List.finRange 4).map Fin.val from by decide, bigSepL_map,
      bigSep_univ_eq_bigSepL (List.finRange 4) (by ext; simp) (List.nodup_finRange _)]
    rfl
  rw [hl]
  constructor
  · iintro ⟨%f, H⟩
    ihave H := (Entails.of_eq (pointsTo_blocks (fun j : Fin 4 => (rect4 j.val).set) rect4_disjoint rect4_union f)) $$ H
    have h1 (j : Fin 4) : (((c : Thread nD τ).loc cc0_scratch1) ↦[(rect4 j.val).set]{fullShare} f) ⊢ (someAt c (slotX j.val) : sProp 𝕄) := by
      have h := someAt_intro (F := F) c (slotX j.val)
      rw [slotX_rect] at h
      iintro H
      iapply h
      iexists f
      iexact H
    iapply (show (bigSep Finset.univ fun j : Fin 4 => ((c : Thread nD τ).loc cc0_scratch1) ↦[(rect4 j.val).set]{fullShare} f)
      ⊢ bigSep Finset.univ fun j : Fin 4 => (someAt c (slotX j.val) : sProp 𝕄) from bigSep_mono fun j _ => h1 j)
    iexact H
  · refine (bigSep_mono (fun (j : Fin 4) _ => show (someAt c (slotX j.val) : sProp 𝕄)
        ⊢ iprop(∃ f : Buf (Elt F) ((c : Thread nD τ).loc cc0_scratch1), ((c : Thread nD τ).loc cc0_scratch1) ↦[(rect4 j.val).set]{fullShare} f) from by
      have h := someAt_elim (F := F) c (slotX j.val)
      rw [slotX_rect] at h
      exact h)).trans ?_
    exact pointsTo_blocks_join_exists (ℓ := (c : Thread nD τ).loc cc0_scratch1) (I := fun j : Fin 4 => (rect4 j.val).set) (hd := rect4_disjoint)
      (hc := rect4_union) (f₀ := m ((c : Thread nD τ).loc cc0_scratch1))

/-- Both buffers are their slots. -/
theorem scratch_slots (c : Dev nD) :
    (Pipeline.scopedRest (Ix := ℕ) (Name := ℕ) (U := UU) (Lvl := ℕ) (Val := Elt F) cfg0.spec c : sProp 𝕄) ⊣⊢ resL m c slots := by
  rw [scopedRest0_eq]
  constructor
  · iintro ⟨H1, H2⟩
    unfold slots
    iapply (resL_join m c _ _)
    isplitl [H1]
    · iapply (slotsL m c).1; iexact H1
    · iapply (slotsX m c).1; iexact H2
  · unfold slots
    iintro H
    ihave H := (resL_append m c _ _) $$ H
    icases H with ⟨H1, H2⟩
    isplitl [H1]
    · iapply (slotsL m c).2; iexact H1
    · iapply (slotsX m c).2; iexact H2

end Cert.Allreduce

end
-- ==== Proof.Launch.lean ====
/-
The run: every device's kernel from any memory with every semaphore at zero.
-/
module

public import proofs.«01_k».proof.Proof.Through
public import proofs.«01_k».proof.Proof.Memory
public import proofs.«01_k».proof.Proof.Gen.KernelIdeal.Points

@[expose] public section

noncomputable section

namespace Cert.Allreduce

open Cert.KernelIdeal Cert.KernelIdeal.Gen
open Idealize.ShloMosaic Idealize.ShloMosaic.TcCoe
open Idealize.SL Idealize.SL.RA Idealize.SL.BI
open scoped Idealize.SL.BI
open scoped Idealize.SL.RA
open Idealize.SL.BI.BIBase Idealize.SL.BI.Laws Idealize.SL.ProofMode Idealize.SL.Sem
open Idealize.ShloMosaic.Rounds
open Idealize.ShloMosaic.Pipeline (Dat Cfg Window BodyObligation cellOf)
open Idealize.ShloMosaic.SiteBlocks (L lv)

variable {F : FTy → Type} [FloatOps F]

local notation "𝕄" => MT nD τ sig ℕ (Elt F) ℕ UU ℕ

variable (m : (ℓ : Loc nD τ sig) → Buf (Elt F) ℓ) (ρ : Dev nD → PrngReg)

/-! ## Before and after the body -/

/-- What device `c` brings to the launch. -/
def X (c : Dev nD) : sProp 𝕄 :=
  iprop(Ctx m ∗ resL m c startCreds ∗ resL m c (cells.map fun x => .pos x 0) ∗ resL m c startToks
    ∗ (((c : Thread nD τ).loc main_arg0) ↦{fullShare} m ((c : Thread nD τ).loc main_arg0))
    ∗ (((c : Thread nD τ).loc main_v1) ↦{fullShare} m ((c : Thread nD τ).loc main_v1)))

/-- What it has afterwards: the result, the input unchanged, and the barrier at zero. -/
def Y (c : Dev nD) : sProp 𝕄 :=
  iprop((∃ g : Buf (Elt F) ((c : Thread nD τ).loc main_v1), ⌜OutOk m c g⌝ ∗ (((c : Thread nD τ).loc main_v1) ↦{fullShare} g))
    ∗ (((c : Thread nD τ).loc main_arg0) ↦{fullShare} m ((c : Thread nD τ).loc main_arg0)) ∗ unscopedSems0 c)

/-- Before the body: all that its operations start from. -/
def Φ₀ (c : Dev nD) : sProp 𝕄 := iprop(Ctx m ∗ resL m c start ∗ spare m c)

/-- After the body: every semaphore at zero and every buffer whole. -/
def Φ₁ (c : Dev nD) : sProp 𝕄 :=
  iprop(Y m c ∗ Pipeline.ownSems0 (Ix := ℕ) (Name := ℕ) (U := UU) (Lvl := ℕ) (Val := Elt F) (τ := τ) osem c
    ∗ Pipeline.scopedRest (Ix := ℕ) (Name := ℕ) (U := UU) (Lvl := ℕ) (Val := Elt F) cfg0.spec c)

def dats (_ : Fin 1) (c : Dev nD) : Dat τ (Elt F) ℕ ℕ UU ℕ cfg0 c where
  A w := m ((cfg0.win w).arr.view.loc (c : Thread nD τ))
  after w _ := Fin.elim0 w
  Φ t := match t with
    | ⟨0, _⟩ => Φ₀ m c
    | ⟨_ + 1, _⟩ => Φ₁ m c
  q _ := fullShare
  owed t := match t with
    | ⟨0, _⟩ => O₀ c
    | ⟨_ + 1, _⟩ => 0

/-! ## The body -/

theorem cells_ok : ∀ x ∈ cells, okC x = true := by
  have h : (cells.all okC) = true := by decide +kernel
  exact fun x hx => List.all_eq_true.mp h x hx

/-- Cells past their last round are closed, their counters at zero. -/
theorem close_cells (c : Dev nD) (l : List Cell) (hl : ∀ x ∈ l, okC x = true) :
    iprop(Ctx m ∗ resL m c (l.map fun x => .pos x (nRounds x))) ⊢ |={Set.univ}=> (bigSepL l fun x => (semVal (kc c x) 0 : sProp 𝕄)) := by
  induction l with
  | nil => iintro -; imodintro; iempintro
  | cons x l ih =>
    have hx := hl x List.mem_cons_self
    have ih' := ih fun y hy => hl y (List.mem_cons_of_mem _ hy)
    have hinv := Ctx_inv m c hx
    rw [bigSepL_cons']
    iintro ⟨#HC, H⟩
    ihave H := (show resL m c ((x :: l).map fun x => .pos x (nRounds x))
      ⊢ iprop(atPos ER (kc c x) (nRounds x) ∅ 0 ∗ resL m c (l.map fun x => .pos x (nRounds x))) from .rfl) $$ H
    icases H with ⟨Hat, H⟩
    ihave HI := hinv $$ HC
    icases HI with ⟨%κ, #HI⟩
    imod (Rounds.cell_close ER (Rd m) (Set.mem_univ κ) (fun h => h) (R := nRounds x) (duties_after m c hx _ le_rfl)) $$ [Hat] with Hz
    · isplitr; · iexact HI
      iexact Hat
    imod ih' $$ [H] with Hl
    · isplitr; · iexact HC
      iexact H
    imodintro
    isplitl [Hz]; · iexact Hz
    iexact Hl

/-- What the operations end with is what is held after the body. -/
theorem ends_exit (c : Dev nD) : iprop(Ctx m ∗ resL m c ends ∗ spare m c) ⊢ |={Set.univ}=> (Φ₁ m c : sProp 𝕄) := by
  iintro ⟨#HC, H, Hs⟩
  unfold ends
  ihave H := (resL_append m c _ _) $$ H
  icases H with ⟨Hp, H⟩
  ihave H := (resL_append m c _ _) $$ H
  icases H with ⟨Hsl, H⟩
  ihave H := (resL_append m c _ _) $$ H
  icases H with ⟨Hi, Ho⟩
  imod (close_cells m c cells cells_ok) $$ [Hp] with Hz
  · isplitr; · iexact HC
    iexact Hp
  ihave Hz := (Entails.of_eq (sems_cells (F := F) c)) $$ Hz
  icases Hz with ⟨Hos, Hus⟩
  ihave Hsc := (scratch_slots m c).2 $$ Hsl
  ihave Hx := (input_close m c) $$ [Hi Hs]
  · isplitl [Hi] <;> iassumption
  ihave Hr := (output_close m c) $$ Ho
  imodintro
  unfold Φ₁ Y
  isplitl [Hr Hx Hus]
  · isplitl [Hr]; · iexact Hr
    isplitl [Hx]; · iexact Hx
    iexact Hus
  isplitl [Hos]; · iexact Hos
  iexact Hsc

/-- No array is staged through a window. -/
theorem bigSep_noWin (Φ : Fin cfg0.W → sProp 𝕄) : bigSep Finset.univ Φ = iprop(emp) := by
  rw [show (Finset.univ : Finset (Fin cfg0.W)) = ∅ from rfl, bigSep_empty]
  rfl

theorem body_obligation (c : Dev nD) : BodyObligation (dats (F := F) m 0 c) (defs₀ (F := F)) 𝒱₀ (0 : ℕ) Set.univ := fun t => by
  obtain rfl := fin_N0 t
  rw [show (dats m 0 c).Φ t0_0.castSucc = Φ₀ m c from rfl, show (dats m 0 c).Φ t0_0.succ = Φ₁ m c from rfl]
  rw [bigSep_noWin, bigSep_noWin, show defs₀ (F := F) Proc.tc cfg0.body (cfg0.bodyArgs t0_0 (cfg0.slots t0_0)) = bodyAt0 (F := F) t0_0 from rfl,
    body_eq, wp_deviceId]
  unfold Φ₀ Dat.owesAt Pipeline.owesWithin
  iintro ⟨⟨#HC, H, Hs⟩, ⟨%W, -, HO⟩, Hw⟩
  iapply (acts_spec m c (.ret ⟨⟩) _ W) $$ [H HO]
  · isplitr; · iexact HC
    isplitl [H]; · iexact H
    iexact HO
  iintro ⟨H, %W', HO⟩
  rw [wp_ret]
  imod (ends_exit m c) $$ [H Hs] with HΦ
  · isplitr; · iexact HC
    isplitl [H]; · iexact H
    iexact Hs
  imodintro
  isplitl [HΦ]; · iexact HΦ
  isplitl [HO]
  · iexists W'
    isplitr; · ipureintro; exact fun _ _ => Or.inl trivial
    iexact HO
  iempintro

/-! ## The launch -/

theorem ownSemFacts : Pipeline.OwnSemFacts cfg0.spec osem := by decide +kernel

theorem start_intro (c : Dev nD) :
    iprop(Pipeline.unscopedRestP Pipeline.Prefetch.none cfg0.spec c (fun b => m ((c : Thread nD τ).loc b)) ∗ levAts (L 64) lv
        ∗ Pipeline.launchCred O₀ c ∗ prngReg c (ρ c) ∗ G' m c)
      ⊢ |={Set.univ}=> iprop(X m c ∗ emp) := by
  rw [Pipeline.unscopedRestP_none, unscopedRest0_eq]
  iintro ⟨⟨Hx, Ho⟩, Hlev, Hcr, -, HG⟩
  ihave Hc := (creds m c) $$ Hcr
  unfold G'
  icases HG with ⟨HK, Hp, Ht⟩
  imodintro
  unfold X
  isplitl
  · isplitl [HK Hlev]
    · unfold Ctx
      isplitl [HK]; · unfold Known; iexact HK
      iexact Hlev
    isplitl [Hc]; · iexact Hc
    isplitl [Hp]; · iexact Hp
    isplitl [Ht]; · iexact Ht
    isplitl [Hx]; · iexact Hx
    iexact Ho
  · iempintro

theorem phi0_intro (c : Dev nD) :
    iprop(X m c ∗ Pipeline.prefHeld Pipeline.Prefetch.none c (fun _ => fullShare.right) (fun k => k.elim0) ∗ Pipeline.scopedRest cfg0.spec c)
      ⊢ (dats m 0 c).Φ 0 := by
  rw [show (dats m 0 c).Φ 0 = Φ₀ m c from rfl]
  unfold X Φ₀ start
  iintro ⟨⟨HC, Hc, Hp, Ht, Hx, Ho⟩, -, Hsc⟩
  ihave Hx := (input_open m c) $$ Hx
  icases Hx with ⟨Hx, Hs⟩
  ihave Ho := (output_open m c _) $$ Ho
  ihave Hsl := (scratch_slots m c).1 $$ Hsc
  isplitl [HC]; · iexact HC
  isplitr [Hs]
  · iapply (resL_join m c _ _)
    isplitl [Hc]; · iexact Hc
    iapply (resL_join m c _ _)
    isplitl [Hp]; · iexact Hp
    iapply (resL_join m c _ _)
    isplitl [Hsl]; · iexact Hsl
    iapply (resL_join m c _ _)
    isplitl [Hx]; · iexact Hx
    iapply (resL_join m c _ _)
    isplitl [Ht]; · iexact Ht
    iexact Ho
  iexact Hs

theorem phi1_exit (c : Dev nD) :
    (dats m 0 c).Φ (Fin.last cfg0.N) ⊢ iprop(Y m c ∗ Pipeline.ownSems0 osem c ∗ Pipeline.scopedRest cfg0.spec c) := by
  rw [show (dats m 0 c).Φ (Fin.last cfg0.N) = Φ₁ m c from rfl]
  unfold Φ₁
  exact BI.Entails.refl _

theorem waits (c : Dev nD) : (levAts (L 64) lv : sProp 𝕄) ⊢ Pipeline.cellsWaits cfgs (dats m) (0 : ℕ) 0 c :=
  Pipeline.cellsWaits_intro cfgs (dats m) (0 : ℕ) 0 c fun w s t => Fin.elim0 w

/-- What is read off the memory at the end on device `c`. -/
def QY (c : Dev nD) (s : MemSt nD τ sig (Elt F)) : Prop :=
  (OutOk m c (s.mem ((c : Thread nD τ).loc main_v1)) ∧ s.mem ((c : Thread nD τ).loc main_arg0) = m ((c : Thread nD τ).loc main_arg0))
    ∧ ∀ sm : SemLoc sig, sm.isScoped .tc = false → s.sem ((c.tc : Thread nD τ), sm) = 0

theorem read_whole (ℓ : Loc nD τ sig) (f : Buf (Elt F) ℓ) (s' : Phys nD τ sig (Elt F)) :
    iprop((ℓ ↦{fullShare} f) ∗ SI s') ⊢ (iprop(⌜s'.mem.mem ℓ = f⌝ ∗ SI s') : sProp 𝕄) := by
  have h := pointsTo_read_all (Ix := ℕ) (Name := ℕ) (U := UU) (Lvl := ℕ) ({()} : Finset Unit) (fun _ => ℓ) (fun _ => f) s'
  rw [bigSep_singleton] at h
  iintro H
  ihave H := h $$ H
  icases H with ⟨%e, H⟩
  isplitr; · ipureintro; exact e () (Finset.mem_singleton_self _)
  iexact H

theorem read_end (c : Dev nD) (s' : Phys nD τ sig (Elt F)) :
    iprop(Y m c ∗ emp ∗ SI s') ⊢ |={Set.univ}=> (iprop(⌜QY m c s'.mem⌝ ∗ SI s') : sProp 𝕄) := by
  unfold Y
  iintro ⟨⟨⟨%g, %hg, Ho⟩, Hx, Hu⟩, -, HSI⟩
  ihave H := (read_whole _ _ s') $$ [Ho HSI]
  · isplitl [Ho] <;> iassumption
  icases H with ⟨%eo, HSI⟩
  ihave H := (read_whole _ _ s') $$ [Hx HSI]
  · isplitl [Hx] <;> iassumption
  icases H with ⟨%ex, HSI⟩
  imod (Pipeline.unscopedSems0_read (X := unscopedSems0 c) (c := c) fupd_intro s') $$ [Hu HSI] with H
  · isplitl [Hu] <;> iassumption
  icases H with ⟨%hu, HSI⟩
  imodintro
  isplitr
  · ipureintro
    exact ⟨⟨by rw [eo]; exact hg, ex⟩, hu⟩
  iexact HSI

/-- The kernel on every device, from any memory with every semaphore at zero, and for any reading of the floats: every
    run ends, with each device's result holding block by block what `OutOk` says, its input unchanged, and every
    semaphore at zero again. -/
theorem run_main : θ_run (defs (F := F)) (onTc (τ := τ) (main (F := F))) ⟨m, fun _ => 0, ρ⟩ (fun r =>
    (∀ c : Dev nD, OutOk m c (r.2.mem ((c : Thread nD τ).loc main_v1))
      ∧ r.2.mem ((c : Thread nD τ).loc main_arg0) = m ((c : Thread nD τ).loc main_arg0)) ∧ r.2.sem = fun _ => 0) :=
  Pipeline.θ_run_region_owing_glob_pf (fun p => (cfgs p).toPCfg) (fun p => (cfgs p).toPCfg_adm) (dats m) (0 : ℕ) cellOf_inj (0 : Fin 1)
    winFacts0.to₀ ownSemFacts (Pipeline.PreFacts.none _) EP defs₀ 𝒱₀ m ρ main
    (hmain := fun _ => rfl)
    (hbody := fun c => (body_obligation m c).loose) (hne := fun w => Fin.elim0 w) (harr := arr_whole0) (hstage := stage_whole0)
    (hshare := fun c w => Fin.elim0 w)
    (hdistinct := winFacts0.arr_inj)
    (O₀ := O₀) (howed₀ := fun _ => rfl) (howedN := fun _ => rfl)
    (L := L 64) (lv := lv) (hL := SiteBlocks.hL 64) (hwaits := waits m)
    (G := G m) (G' := G' m) (u₀ := u₀)
    (hu₀ := by
      unfold u₀
      iintro Hu
      ihave H := (ownU_pair _ _) $$ Hu
      icases H with ⟨HP, HX⟩
      imod (fund_all m) $$ HX with HG
      imodintro
      isplitl [HP] <;> iassumption)
    (hglob := glob m)
    (hA := fun _ _ => rfl) (hpf := fun _ k => k.elim0)
    (X := X m) (Y := Y m) (Z := fun _ => iprop(emp))
    (hX := start_intro m ρ) (hin := phi0_intro m) (hout := phi1_exit m)
    (QY := QY m) (hY := read_end m)
    (hQ := fun _ h hs => ⟨fun c => (h c).2.2.1, sem_eq_zero hs fun c => (h c).2.2.2⟩)

end Cert.Allreduce

end
-- ==== Proof.Value.lean ====
/-
The result: the blocks of rows put together are the sum of the two halves of the whole input, on every device.
-/
module

public import proofs.«01_k».proof.Proof.Memory
public import proofs.«01_k».proof.Proof.Gen.ReferenceIdeal
public import Idealize.ShloMosaic.Lib.Layout
public import Idealize.ShloMosaic.Lib.Pointwise.Reduce
public import Idealize.ShloMosaic.Lib.Pipeline.Value
public import Idealize.ShloMosaic.PureOps.Ideal
public import Idealize.ShloMosaic.PureOps.Ideal.Laws

@[expose] public section

noncomputable section

namespace Cert.Allreduce

open Cert.KernelIdeal Cert.KernelIdeal.Gen
open Idealize.ShloMosaic Idealize.ShloMosaic.TcCoe

section AnyFloats

variable {F : FTy → Type} [FloatOps F]
variable (m : (ℓ : Loc nD τ sig) → Buf (Elt F) ℓ)

/-- The sum of what device `c` and its neighbour along y are given. -/
def total (c : Dev nD) : S32768x1024.Idx → Elt F .f32 :=
  addf (m ((c : Thread nD τ).loc main_arg0)) (m ((peer 1 c : Thread nD τ).loc main_arg0))

/-- A block of rows of an array of the result's shape. -/
def rowsOf (w : ℕ) (c : Dev nD) (k : ℕ) (f : S32768x1024.Idx → Elt F .f32) : S512x1024.Idx → Elt F .f32 :=
  (oRows w c k).view.read (Elt F) f

theorem rowsOf_congr {w w' : ℕ} (hw : w < 4) (hw' : w' < 4) {c c' : Dev nD} (k : ℕ) (h : quarter w c = quarter w' c')
    (f : S32768x1024.Idx → Elt F .f32) : rowsOf w c k f = rowsOf w' c' k f := by
  have e : rowOff w c k = rowOff w' c' k := by rw [rowOff_eq w hw, rowOff_eq w' hw', h]
  have g : ∀ (o o' : Fin 2 → ℕ) (i : ∀ a, o a + S512x1024.size a ≤ S32768x1024.size a) (i' : ∀ a, o' a + S512x1024.size a ≤ S32768x1024.size a),
      o = o' → ((Memref.whole main_v1).slice (Rect.unit (s := S32768x1024) o S512x1024.size i) (fun _ => rfl)).view.read (Elt F) f
        = ((Memref.whole main_v1).slice (Rect.unit (s := S32768x1024) o' S512x1024.size i') (fun _ => rfl)).view.read (Elt F) f := by
    intro o o' i i' h
    subst h
    rfl
  exact g _ _ _ _ e

theorem xBlk_rows (w : ℕ) (k : ℕ) (c : Dev nD) : xBlk m w k c = rowsOf w c k (m ((c : Thread nD τ).loc main_arg0)) := rfl

/-- The sum of two blocks is that block of the sum. -/
theorem sumBlk_rows (w : ℕ) (hw : w < 4) (k : ℕ) (c : Dev nD) : sumBlk m w k c = rowsOf w c k (total m c) := by
  unfold sumBlk
  rw [xBlk_rows, xBlk_rows, rowsOf_congr hw hw k (quarter_y ⟨w, hw⟩ c)]
  rfl

/-- Every block of the result is that block of the sum, if all devices have the same sum. -/
theorem oBlk_rows (T : S32768x1024.Idx → Elt F .f32) (hT : ∀ c, total m c = T) (w : Fin 4) (k : ℕ) (c : Dev nD) :
    oBlk m w.val k c = rowsOf w.val c k T := by
  have hx := quarter_own_x (peer 2 c)
  have hz := quarter_own_z (peer 3 c)
  have hxz := quarter_own_x (peer 3 (peer 2 c))
  have h3 := quarter_x_z (peer 3 c)
  rw [peer_peer] at hx hz h3
  rw [peer_comm23, peer_peer, ← peer_comm23, h3] at hxz
  match w with
  | 0 => show sumBlk m 0 k c = _; rw [sumBlk_rows m 0 (by decide), hT]; rfl
  | 1 => show sumBlk m 0 k (peer 2 c) = _; rw [sumBlk_rows m 0 (by decide), hT]; exact rowsOf_congr (by decide) (by decide) k hx T
  | 2 => show sumBlk m 0 k (peer 3 c) = _; rw [sumBlk_rows m 0 (by decide), hT]; exact rowsOf_congr (by decide) (by decide) k hz T
  | 3 =>
    show (if k < 5 then sumBlk m 3 k c else sumBlk m 0 k (peer 3 (peer 2 c))) = _
    rw [sumBlk_rows m 3 (by decide), sumBlk_rows m 0 (by decide), hT, hT]
    split
    · rfl
    · exact rowsOf_congr (by decide) (by decide) k hxz T

/-- The result is that sum. -/
theorem out_eq (T : S32768x1024.Idx → Elt F .f32) (hT : ∀ c, total m c = T) (c : Dev nD)
    (g : Buf (Elt F) ((c : Thread nD τ).loc main_v1)) (hg : OutOk m c g) : g = T := by
  funext i
  obtain ⟨t, ht⟩ := rowRect_cover c i
  rw [← oRows_set, View.set, Finset.mem_map] at ht
  obtain ⟨j, -, hj⟩ := ht
  have h := congrFun ((hg t).trans (oBlk_rows m T hT t.1 t.2.val c)) j
  rw [← hj]
  exact h

end AnyFloats

/-! ## Over the extended reals -/

/-- The whole input, as the reference takes it. -/
abbrev Whole : Type := (⟨2, ![65536, 1024]⟩ : Shape).Idx → Elt Ideal .f32

/-- The half of the whole input that a device is given. -/
def part (A : Whole) (c : Dev nD) : S32768x1024.Idx → Elt Ideal .f32 :=
  Layout.blockN ⟨2, ![32768, 1024]⟩ ⟨2, ![65536, 1024]⟩ (Layout.meshBlock [2, 2, 4] ![[1], []] c) A

/-- The two neighbours along y are given the two halves, in one order or the other. -/
theorem halves : ∀ c : Dev nD,
    (Layout.meshBlock [2, 2, 4] ![[1], []] c = Layout.meshBlock [2, 2, 4] ![[1], []] (0 : Dev nD)
      ∧ Layout.meshBlock [2, 2, 4] ![[1], []] (peer 1 c) = Layout.meshBlock [2, 2, 4] ![[1], []] (4 : Dev nD))
    ∨ (Layout.meshBlock [2, 2, 4] ![[1], []] c = Layout.meshBlock [2, 2, 4] ![[1], []] (4 : Dev nD)
      ∧ Layout.meshBlock [2, 2, 4] ![[1], []] (peer 1 c) = Layout.meshBlock [2, 2, 4] ![[1], []] (0 : Dev nD)) := by
  decide +kernel

/-- The sum of the two halves. -/
def sumHalves (A : Whole) : S32768x1024.Idx → Elt Ideal .f32 := addf (F := Ideal) (φ := .f32) (part A 0) (part A 4)

/-- The order in which two arrays are added does not matter. -/
theorem add_swap (x y : S32768x1024.Idx → Elt Ideal .f32) : addf (F := Ideal) (φ := .f32) x y = addf (F := Ideal) (φ := .f32) y x :=
  funext fun i => add_comm (G := EReal) (x i) (y i)

/-- All devices have the same sum. -/
theorem total_eq (m : (ℓ : Loc nD τ sig) → Buf (Elt Ideal) ℓ) (A : Whole) (hA : ∀ c : Dev nD, m ((c : Thread nD τ).loc main_arg0) = part A c)
    (c : Dev nD) : total m c = sumHalves A := by
  unfold total sumHalves
  rw [hA, hA]
  rcases halves c with ⟨h, h'⟩ | ⟨h, h'⟩
  · unfold part; rw [h, h']
  · unfold part; rw [h, h']; exact add_swap _ _

/-- The reshape to (2, 32768, 1024) puts the two halves one above the other. -/
theorem reshape_half (A : Whole) (b : Fin 2) (c : Dev nD) (hc : ((Layout.meshBlock [2, 2, 4] ![[1], []] c) 0).val = b.val)
    (j : S32768x1024.Idx) (k : Cert.ReferenceIdeal.S2x32768x1024.Idx) (h0 : (k 0).val = b.val) (h1 : (k 1).val = (j 0).val) (h2 : (k 2).val = (j 1).val) :
    shapeCast Cert.ReferenceIdeal.S2x32768x1024 A Cert.ReferenceIdeal.Gen.shapeCasts_S65536x1024_S2x32768x1024 k = part A c j := by
  unfold part
  rw [Layout.blockN_apply]
  apply shapeCast_apply
  rw [Shape.rowMajor_val_two, Shape.rowMajor_val_three, Layout.TilesN.idx_val, Layout.TilesN.idx_val]
  have hz : ((Layout.meshBlock [2, 2, 4] ![[1], []] c) 1).val = 0 := Nat.lt_one_iff.mp ((Layout.meshBlock [2, 2, 4] ![[1], []] c) 1).isLt
  show (((Layout.meshBlock [2, 2, 4] ![[1], []] c) 0).val * 32768 + (j 0).val) * 1024 + (((Layout.meshBlock [2, 2, 4] ![[1], []] c) 1).val * 1024 + (j 1).val)
    = ((k 0).val * 32768 + (k 1).val) * 1024 + (k 2).val
  rw [hc, hz, h0, h1, h2]
  omega

/-- The reference's sum is the sum of the two halves. -/
theorem reference_eq (A : Whole) :
    Host.reduceAdd (F := Ideal) (φ := .f32) (shapeCast Cert.ReferenceIdeal.S2x32768x1024 A Cert.ReferenceIdeal.Gen.shapeCasts_S65536x1024_S2x32768x1024)
      (constant (F := Ideal) Cert.ReferenceIdeal.S_ .f32 0x00000000#32)
      Cert.ReferenceIdeal.Gen.reducesTo_S2x32768x1024_S32768x1024_d0 Cert.ReferenceIdeal.Gen.h_S_ = sumHalves A := by
  funext j
  rw [Host.reduceAdd_apply, Ideal.hostReduceAdd_def, Ideal.hostReduceAdd_r3_a0, Fin.sum_univ_two]
  rw [reshape_half A 0 0 (by decide) j _ rfl rfl rfl, reshape_half A 1 4 (by decide) j _ rfl rfl rfl]
  rw [show constant (F := Ideal) Cert.ReferenceIdeal.S_ .f32 0x00000000#32 (Shape.Idx.first Cert.ReferenceIdeal.Gen.h_S_) = (0 : EReal) from Ideal.ofBits_zero_f32]
  exact zero_add (M := EReal) _

end Cert.Allreduce

end
-- ==== Proof.lean ====
/-
The claims, put together: the kernel's run, read for its frame at either reading of the floats and for its value at the
exact one, beside the reference's run.
-/
module

public import proofs.«01_k».proof.Defs
public import proofs.«01_k».proof.Proof.Launch
public import proofs.«01_k».proof.Proof.Value
public import proofs.«01_k».proof.Proof.Gen.Kernel
public import proofs.«01_k».proof.Proof.Gen.KernelIdeal
public import proofs.«01_k».proof.Proof.Gen.ReferenceIdeal
public import proofs.«01_k».proof.Proof.Gen.ReferenceIdeal.Run

@[expose] public section

noncomputable section

namespace Cert.Proof

open Idealize.ShloMosaic Idealize.SL.Sem

/-- The kernel runs, its input ends unchanged and every semaphore ends at zero, its floats read as bit patterns; -/
theorem kernel_quiescent : Cert.quiescent_Kernel := fun m ρ _ =>
  (θ_run Cert.KernelIdeal.defs _ _).mono (fun _ h => ⟨fun c => (h.1 c).2, h.2⟩) (Cert.Allreduce.run_main (F := Bits) m ρ)

/-- and so it does with its floats read as extended reals. -/
theorem kernelIdeal_quiescent : Cert.quiescent_KernelIdeal := fun m ρ _ =>
  (θ_run Cert.KernelIdeal.defs _ _).mono (fun _ h => ⟨fun c => (h.1 c).2, h.2⟩) (Cert.Allreduce.run_main (F := Ideal) m ρ)

/-- The reference runs and its input ends unchanged; it has no semaphore. -/
theorem reference_quiescent : Cert.quiescent_ReferenceIdeal := fun m ρ _ =>
  (θ_run Cert.ReferenceIdeal.defs _ _).mono (fun r h => ⟨fun c => (h c).2, sem_eq_zero_of_no_sems (by decide) r.2⟩)
    (Cert.ReferenceIdeal.Value.run (F := Ideal) m ρ)

/-- Over the extended reals every device ends with the reference's result: the sum of the two halves of the input. -/
theorem algebraic : Cert.algebraic_KernelIdeal_ReferenceIdeal := fun m ρ m' ρ' _ hA =>
  ⟨Cert.Allreduce.sumHalves (m' (((0 : Dev Cert.ReferenceIdeal.nD).tc : Thread Cert.ReferenceIdeal.nD Cert.ReferenceIdeal.τ).loc Cert.ReferenceIdeal.main_arg0)),
    (θ_run Cert.KernelIdeal.defs _ _).mono
      (fun _ h c => ⟨Cert.Allreduce.out_eq m _ (Cert.Allreduce.total_eq m _ hA) c _ (h.1 c).1, (h.1 c).2⟩)
      (Cert.Allreduce.run_main (F := Ideal) m ρ),
    (θ_run Cert.ReferenceIdeal.defs _ _).mono (fun _ h => ⟨(h 0).1.trans (Cert.Allreduce.reference_eq _), (h 0).2⟩)
      (Cert.ReferenceIdeal.Value.run (F := Ideal) m' ρ')⟩

theorem claim : Cert.Claim := ⟨Cert.Kernel.Gen.facts, Cert.KernelIdeal.Gen.facts, Cert.ReferenceIdeal.Gen.facts,
  kernel_quiescent, kernelIdeal_quiescent, reference_quiescent, trivial, algebraic⟩

end Cert.Proof

end
